-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S2x256x4096 : Shape := ⟨3, ![2, 256, 4096]⟩
abbrev S7 : Shape := ⟨1, ![7]⟩
abbrev S_ : Shape := ⟨0, ![]⟩
abbrev S1 : Shape := ⟨1, ![1]⟩
abbrev S1x128 : Shape := ⟨2, ![1, 128]⟩
abbrev S8x128 : Shape := ⟨2, ![8, 128]⟩
abbrev S256x4096 : Shape := ⟨2, ![256, 4096]⟩
abbrev S1x256x4096 : Shape := ⟨3, ![1, 256, 4096]⟩
abbrev S256x1024 : Shape := ⟨2, ![256, 1024]⟩
abbrev S1x256x1024 : Shape := ⟨3, ![1, 256, 1024]⟩
abbrev S1x1x1 : Shape := ⟨3, ![1, 1, 1]⟩
abbrev S128 : Shape := ⟨1, ![128]⟩
abbrev S1x8x128 : Shape := ⟨3, ![1, 8, 128]⟩
abbrev S512x1024 : Shape := ⟨2, ![512, 1024]⟩

abbrev nBuf : Space → Nat
  | .hbm => 3
  | .vmem => 7
  | .smem => 1
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S2x256x4096, .bf16⟩
  | .local _ .vmem, ⟨4, _⟩ => ⟨S2x256x4096, .bf16⟩
  | .local _ .vmem, ⟨5, _⟩ => ⟨S1x128, .f32⟩
  | .local _ .vmem, ⟨6, _⟩ => ⟨S8x128, .f32⟩
  | .local _ .smem, ⟨0, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 3 45 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch9 : Ref sig .tc := ⟨.vmem, 5, rfl⟩
abbrev cc0_scratch10 : Ref sig .tc := ⟨.vmem, 6, rfl⟩
abbrev cc0_scratch8 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_15 : BitVec 32 := 1#32
  let v30 : BitVec 32 := Scalar.muli v28 c1_i32_15
  let v31 : BitVec 32 := Scalar.addi c0_i32_16 v30
  v31.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_18 : BitVec 32 := 1#32
  let v32 : BitVec 32 := Scalar.muli v18 c1_i32_18
  let v33 : BitVec 32 := Scalar.addi c0_i32_19 v32
  v33.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_33 : BitVec 32 := 1#32
  let v47 : BitVec 32 := Scalar.muli v18 c1_i32_33
  let v48 : BitVec 32 := Scalar.addi c0_i32_34 v47
  v48.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_43 : BitVec 32 := 1#32
  let v57 : BitVec 32 := Scalar.muli v28 c1_i32_43
  let v58 : BitVec 32 := Scalar.addi c0_i32_44 v57
  v58.toNat
def k0_off1 (d0 : Dev nD) (c0_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v75 : BitVec 32 := Scalar.muli v2 c512_i32
  let v76 : BitVec 32 := Scalar.addi v75 c0_i32_56
  let v77 : Index := Scalar.indexCast v76
  let c0_57 : Index := 0#32
  ![v77.toNat, 0]
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_92 : BitVec 32 := 1#32
  let v117 : BitVec 32 := Scalar.muli v28 c1_i32_92
  let v118 : BitVec 32 := Scalar.addi c0_i32_93 v117
  v118.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_95 : BitVec 32 := 1#32
  let v119 : BitVec 32 := Scalar.muli v18 c1_i32_95
  let v120 : BitVec 32 := Scalar.addi c0_i32_96 v119
  v120.toNat
def k0_dev7 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_125 : BitVec 32 := 1#32
  let v137 : BitVec 32 := Scalar.muli v18 c1_i32_125
  let v138 : BitVec 32 := Scalar.addi c0_i32_126 v137
  v138.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_135 : BitVec 32 := 1#32
  let v147 : BitVec 32 := Scalar.muli v28 c1_i32_135
  let v148 : BitVec 32 := Scalar.addi c0_i32_136 v147
  v148.toNat
def k0_off2 (d0 : Dev nD) (c1_i32_142 : BitVec 32) (c0_i32_161 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_141 : BitVec 32 := 8#32
  let v157 : BitVec 32 := Scalar.addi v9 c8_i32_141
  let v158 : BitVec 32 := Scalar.subi v157 c1_i32_142
  let c8_i32_143 : BitVec 32 := 8#32
  let v159 : BitVec 32 := Scalar.remsi v158 c8_i32_143
  let c4_i32_144 : BitVec 32 := 4#32
  let v160 : BitVec 1 := Scalar.cmpi .sge v159 c4_i32_144
  let v161 : BitVec 32 := Scalar.extui v160
  let c4_i32_147 : BitVec 32 := 4#32
  let v165 : BitVec 32 := Scalar.muli v161 c4_i32_147
  let c0_i32_145 : BitVec 32 := 0#32
  let v162 : BitVec 1 := Scalar.cmpi .eq v161 c0_i32_145
  let c7_i32_146 : BitVec 32 := 7#32
  let v163 : BitVec 32 := Scalar.subi c7_i32_146 v159
  let v164 : BitVec 32 := Scalar.select v162 v159 v163
  let v166 : BitVec 32 := Scalar.addi v165 v164
  let c512_i32_160 : BitVec 32 := 512#32
  let v184 : BitVec 32 := Scalar.muli v166 c512_i32_160
  let v185 : BitVec 32 := Scalar.addi v184 c0_i32_161
  let v186 : Index := Scalar.indexCast v185
  let c0_162 : Index := 0#32
  ![v186.toNat, 0]
def k0_off2_at (r : Fin 7) : BitVec 32 × BitVec 32 :=
  if r.val < 3 then
    if r.val < 1 then
      (1#32, 0#32)
    else
      if r.val < 2 then
        (2#32, 0#32)
      else
        (3#32, 0#32)
  else
    if r.val < 5 then
      if r.val < 4 then
        (4#32, 0#32)
      else
        (5#32, 0#32)
    else
      if r.val < 6 then
        (6#32, 0#32)
      else
        (1#32, 256#32)
def k0_off3 (d0 : Dev nD) (c1_i32_148 : BitVec 32) (c256_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let v167 : BitVec 32 := Scalar.addi v9 c1_i32_148
  let c8_i32_149 : BitVec 32 := 8#32
  let v168 : BitVec 32 := Scalar.remsi v167 c8_i32_149
  let c4_i32_150 : BitVec 32 := 4#32
  let v169 : BitVec 1 := Scalar.cmpi .sge v168 c4_i32_150
  let v170 : BitVec 32 := Scalar.extui v169
  let c4_i32_153 : BitVec 32 := 4#32
  let v174 : BitVec 32 := Scalar.muli v170 c4_i32_153
  let c0_i32_151 : BitVec 32 := 0#32
  let v171 : BitVec 1 := Scalar.cmpi .eq v170 c0_i32_151
  let c7_i32_152 : BitVec 32 := 7#32
  let v172 : BitVec 32 := Scalar.subi c7_i32_152 v168
  let v173 : BitVec 32 := Scalar.select v171 v168 v172
  let v175 : BitVec 32 := Scalar.addi v174 v173
  let c512_i32_173 : BitVec 32 := 512#32
  let v203 : BitVec 32 := Scalar.muli v175 c512_i32_173
  let v204 : BitVec 32 := Scalar.addi v203 c256_i32_174
  let v205 : Index := Scalar.indexCast v204
  let c0_175 : Index := 0#32
  ![v205.toNat, 0]
def k0_off3_at (r : Fin 7) : BitVec 32 × BitVec 32 :=
  if r.val < 3 then
    if r.val < 1 then
      (1#32, 256#32)
    else
      if r.val < 2 then
        (2#32, 256#32)
      else
        (3#32, 256#32)
  else
    if r.val < 5 then
      if r.val < 4 then
        (4#32, 256#32)
      else
        (5#32, 256#32)
    else
      if r.val < 6 then
        (6#32, 256#32)
      else
        (1#32, 0#32)
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_198 : BitVec 32 := 1#32
  let v226 : BitVec 32 := Scalar.muli v28 c1_i32_198
  let v227 : BitVec 32 := Scalar.addi c0_i32_199 v226
  v227.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_201 : BitVec 32 := 1#32
  let v228 : BitVec 32 := Scalar.muli v18 c1_i32_201
  let v229 : BitVec 32 := Scalar.addi c0_i32_202 v228
  v229.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_231 : BitVec 32 := 1#32
  let v246 : BitVec 32 := Scalar.muli v18 c1_i32_231
  let v247 : BitVec 32 := Scalar.addi c0_i32_232 v246
  v247.toNat
def k0_dev12 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_241 : BitVec 32 := 1#32
  let v256 : BitVec 32 := Scalar.muli v28 c1_i32_241
  let v257 : BitVec 32 := Scalar.addi c0_i32_242 v256
  v257.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_305 : BitVec 32 := 1#32
  let v335 : BitVec 32 := Scalar.muli v28 c1_i32_305
  let v336 : BitVec 32 := Scalar.addi c0_i32_306 v335
  v336.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_308 : BitVec 32 := 1#32
  let v337 : BitVec 32 := Scalar.muli v18 c1_i32_308
  let v338 : BitVec 32 := Scalar.addi c0_i32_309 v337
  v338.toNat
def k0_dev15 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_337 : BitVec 32 := 1#32
  let v355 : BitVec 32 := Scalar.muli v18 c1_i32_337
  let v356 : BitVec 32 := Scalar.addi c0_i32_338 v355
  v356.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_347 : BitVec 32 := 1#32
  let v365 : BitVec 32 := Scalar.muli v28 c1_i32_347
  let v366 : BitVec 32 := Scalar.addi c0_i32_348 v365
  v366.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_411 : BitVec 32 := 1#32
  let v444 : BitVec 32 := Scalar.muli v28 c1_i32_411
  let v445 : BitVec 32 := Scalar.addi c0_i32_412 v444
  v445.toNat
def k0_dev18 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_414 : BitVec 32 := 1#32
  let v446 : BitVec 32 := Scalar.muli v18 c1_i32_414
  let v447 : BitVec 32 := Scalar.addi c0_i32_415 v446
  v447.toNat
def k0_dev19 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_444 : BitVec 32 := 1#32
  let v464 : BitVec 32 := Scalar.muli v18 c1_i32_444
  let v465 : BitVec 32 := Scalar.addi c0_i32_445 v464
  v465.toNat
def k0_dev20 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_454 : BitVec 32 := 1#32
  let v474 : BitVec 32 := Scalar.muli v28 c1_i32_454
  let v475 : BitVec 32 := Scalar.addi c0_i32_455 v474
  v475.toNat
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_518 : BitVec 32 := 1#32
  let v553 : BitVec 32 := Scalar.muli v28 c1_i32_518
  let v554 : BitVec 32 := Scalar.addi c0_i32_519 v553
  v554.toNat
def k0_dev22 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_521 : BitVec 32 := 1#32
  let v555 : BitVec 32 := Scalar.muli v18 c1_i32_521
  let v556 : BitVec 32 := Scalar.addi c0_i32_522 v555
  v556.toNat
def k0_dev23 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_550 : BitVec 32 := 1#32
  let v573 : BitVec 32 := Scalar.muli v18 c1_i32_550
  let v574 : BitVec 32 := Scalar.addi c0_i32_551 v573
  v574.toNat
def k0_dev24 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_560 : BitVec 32 := 1#32
  let v583 : BitVec 32 := Scalar.muli v28 c1_i32_560
  let v584 : BitVec 32 := Scalar.addi c0_i32_561 v583
  v584.toNat
def k0_dev25 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_624 : BitVec 32 := 1#32
  let v662 : BitVec 32 := Scalar.muli v28 c1_i32_624
  let v663 : BitVec 32 := Scalar.addi c0_i32_625 v662
  v663.toNat
def k0_dev26 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_627 : BitVec 32 := 1#32
  let v664 : BitVec 32 := Scalar.muli v18 c1_i32_627
  let v665 : BitVec 32 := Scalar.addi c0_i32_628 v664
  v665.toNat
def k0_dev27 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c1_i32_1 : BitVec 32 := 1#32
  let v10 : BitVec 32 := Scalar.addi v9 c1_i32_1
  let c8_i32_2 : BitVec 32 := 8#32
  let v11 : BitVec 32 := Scalar.remsi v10 c8_i32_2
  let c4_i32_3 : BitVec 32 := 4#32
  let v12 : BitVec 1 := Scalar.cmpi .sge v11 c4_i32_3
  let v13 : BitVec 32 := Scalar.extui v12
  let c4_i32_6 : BitVec 32 := 4#32
  let v17 : BitVec 32 := Scalar.muli v13 c4_i32_6
  let c0_i32_4 : BitVec 32 := 0#32
  let v14 : BitVec 1 := Scalar.cmpi .eq v13 c0_i32_4
  let c7_i32_5 : BitVec 32 := 7#32
  let v15 : BitVec 32 := Scalar.subi c7_i32_5 v11
  let v16 : BitVec 32 := Scalar.select v14 v11 v15
  let v18 : BitVec 32 := Scalar.addi v17 v16
  let c1_i32_656 : BitVec 32 := 1#32
  let v682 : BitVec 32 := Scalar.muli v18 c1_i32_656
  let v683 : BitVec 32 := Scalar.addi c0_i32_657 v682
  v683.toNat
def k0_dev28 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let v4 : BitVec 32 := Scalar.extui v3
  let c4_i32_0 : BitVec 32 := 4#32
  let v8 : BitVec 32 := Scalar.muli v4 c4_i32_0
  let c0_i32 : BitVec 32 := 0#32
  let v5 : BitVec 1 := Scalar.cmpi .eq v4 c0_i32
  let c7_i32 : BitVec 32 := 7#32
  let v6 : BitVec 32 := Scalar.subi c7_i32 v2
  let v7 : BitVec 32 := Scalar.select v5 v2 v6
  let v9 : BitVec 32 := Scalar.addi v8 v7
  let c8_i32_7 : BitVec 32 := 8#32
  let v19 : BitVec 32 := Scalar.addi v9 c8_i32_7
  let c1_i32_8 : BitVec 32 := 1#32
  let v20 : BitVec 32 := Scalar.subi v19 c1_i32_8
  let c8_i32_9 : BitVec 32 := 8#32
  let v21 : BitVec 32 := Scalar.remsi v20 c8_i32_9
  let c4_i32_10 : BitVec 32 := 4#32
  let v22 : BitVec 1 := Scalar.cmpi .sge v21 c4_i32_10
  let v23 : BitVec 32 := Scalar.extui v22
  let c4_i32_13 : BitVec 32 := 4#32
  let v27 : BitVec 32 := Scalar.muli v23 c4_i32_13
  let c0_i32_11 : BitVec 32 := 0#32
  let v24 : BitVec 1 := Scalar.cmpi .eq v23 c0_i32_11
  let c7_i32_12 : BitVec 32 := 7#32
  let v25 : BitVec 32 := Scalar.subi c7_i32_12 v21
  let v26 : BitVec 32 := Scalar.select v24 v21 v25
  let v28 : BitVec 32 := Scalar.addi v27 v26
  let c1_i32_666 : BitVec 32 := 1#32
  let v692 : BitVec 32 := Scalar.muli v28 c1_i32_666
  let v693 : BitVec 32 := Scalar.addi c0_i32_667 v692
  v693.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v850 : Index := Scalar.indexCast v2
  let c0_791 : Index := 0#32
  ![v850.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_798 : BitVec 32 := 0#32
  ![v2.toNat, 0]
def k0_dev29 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_792 : BitVec 32 := 1#32
  let v854 : BitVec 32 := Scalar.addi v2 c1_i32_792
  let c8_i32_793 : BitVec 32 := 8#32
  let v855 : BitVec 32 := Scalar.remsi v854 c8_i32_793
  let c1_i32_796 : BitVec 32 := 1#32
  let v856 : BitVec 32 := Scalar.muli v855 c1_i32_796
  let v857 : BitVec 32 := Scalar.addi c0_i32_797 v856
  v857.toNat
def k0_dev30 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_799 : BitVec 32 := 2#32
  let v863 : BitVec 32 := Scalar.addi v2 c2_i32_799
  let c8_i32_800 : BitVec 32 := 8#32
  let v864 : BitVec 32 := Scalar.remsi v863 c8_i32_800
  let c1_i32_803 : BitVec 32 := 1#32
  let v865 : BitVec 32 := Scalar.muli v864 c1_i32_803
  let v866 : BitVec 32 := Scalar.addi c0_i32_804 v865
  v866.toNat
def k0_dev31 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_806 : BitVec 32 := 3#32
  let v872 : BitVec 32 := Scalar.addi v2 c3_i32_806
  let c8_i32_807 : BitVec 32 := 8#32
  let v873 : BitVec 32 := Scalar.remsi v872 c8_i32_807
  let c1_i32_810 : BitVec 32 := 1#32
  let v874 : BitVec 32 := Scalar.muli v873 c1_i32_810
  let v875 : BitVec 32 := Scalar.addi c0_i32_811 v874
  v875.toNat
def k0_dev32 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_813 : BitVec 32 := 4#32
  let v881 : BitVec 32 := Scalar.addi v2 c4_i32_813
  let c8_i32_814 : BitVec 32 := 8#32
  let v882 : BitVec 32 := Scalar.remsi v881 c8_i32_814
  let c1_i32_817 : BitVec 32 := 1#32
  let v883 : BitVec 32 := Scalar.muli v882 c1_i32_817
  let v884 : BitVec 32 := Scalar.addi c0_i32_818 v883
  v884.toNat
def k0_dev33 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_820 : BitVec 32 := 5#32
  let v890 : BitVec 32 := Scalar.addi v2 c5_i32_820
  let c8_i32_821 : BitVec 32 := 8#32
  let v891 : BitVec 32 := Scalar.remsi v890 c8_i32_821
  let c1_i32_824 : BitVec 32 := 1#32
  let v892 : BitVec 32 := Scalar.muli v891 c1_i32_824
  let v893 : BitVec 32 := Scalar.addi c0_i32_825 v892
  v893.toNat
def k0_dev34 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_827 : BitVec 32 := 6#32
  let v899 : BitVec 32 := Scalar.addi v2 c6_i32_827
  let c8_i32_828 : BitVec 32 := 8#32
  let v900 : BitVec 32 := Scalar.remsi v899 c8_i32_828
  let c1_i32_831 : BitVec 32 := 1#32
  let v901 : BitVec 32 := Scalar.muli v900 c1_i32_831
  let v902 : BitVec 32 := Scalar.addi c0_i32_832 v901
  v902.toNat
def k0_dev35 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_834 : BitVec 32 := 7#32
  let v908 : BitVec 32 := Scalar.addi v2 c7_i32_834
  let c8_i32_835 : BitVec 32 := 8#32
  let v909 : BitVec 32 := Scalar.remsi v908 c8_i32_835
  let c1_i32_838 : BitVec 32 := 1#32
  let v910 : BitVec 32 := Scalar.muli v909 c1_i32_838
  let v911 : BitVec 32 := Scalar.addi c0_i32_839 v910
  v911.toNat
def k0_off6 (d0 : Dev nD) (c1_i32_841 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v917 : BitVec 32 := Scalar.subi v2 c1_i32_841
  let c8_i32_842 : BitVec 32 := 8#32
  let v918 : BitVec 32 := Scalar.addi v917 c8_i32_842
  let c8_i32_843 : BitVec 32 := 8#32
  let v919 : BitVec 32 := Scalar.remsi v918 c8_i32_843
  let c0_i32_848 : BitVec 32 := 0#32
  ![v919.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 15
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x8192, .f32⟩
  | .hbm, ⟨13, _⟩ => ⟨S4096x8192, .f32⟩
  | .hbm, ⟨14, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/-
  The kernel's body as one generic hop repeated: the prologue, seven hops of the two half rings (each with its two
  transfers, its two blocks of the product, its waits and its credit signals), the last two blocks, the exchange of the
  devices' maxima, and the eight blocks of the quantiser. The printed body IS this composition, by definitional
  unfolding (`cc0_body_prog`), so that each piece is reasoned about once, at a symbolic hop.
-/
module

public import proofs.«01_k».proof.Defs
public import proofs.«01_k».proof.Proof.Gen.KernelIdeal
public import proofs.«01_k».proof.Proof.Gen.KernelIdeal.Skeleton

@[expose] public section

noncomputable section

namespace Cert.RingProof

open Cert.KernelIdeal Cert.KernelIdeal.Gen
open Idealize.ShloMosaic Idealize.SL.Sem

variable {F : FTy → Type} [FloatOps F]

/-- A TensorCore program of the kernel. -/
abbrev P (F : FTy → Type) : Type 1 := Prog (TpuEff nD τ sig (Elt F) Λ₀ .tc) PUnit

/-- The runtime's barrier semaphore. -/
abbrev barS : Sem sig := (SemArray.scalar (sig.barrier 0 rfl) : Sems sig S_).sem

theorem slot_inb (p : Fin 2) : ∀ a, (![p.val, 0, 0] : Fin 3 → Nat) a + S1x256x4096.size a ≤ S2x256x4096.size a := by
  fin_cases p <;> decide

theorem sem_inb (h : Fin 7) : ∀ a, (![h.val] : Fin 1 → Nat) a + S1.size a ≤ S7.size a := by
  fin_cases h <;> decide

/-- Slot `p` of a double buffer. -/
abbrev slotR (p : Fin 2) : Rect S2x256x4096 := Rect.unit (s := S2x256x4096) ![p.val, 0, 0] S1x256x4096.size (slot_inb p)

/-- Slot `p` of a double buffer, as the transfers name it. -/
abbrev slotQ (a : Memref sig .tc .vmem S2x256x4096 .bf16) (p : Fin 2) : Memref sig .tc .vmem S256x4096 .bf16 :=
  (a.slice (slotR p) (fun _ => rfl)).squeeze S256x4096 squeezes_S1x256x4096_S256x4096

/-- Semaphore `h` of an array of seven. -/
abbrev semAt (a : DmaSems sig S7) (h : Fin 7) : DmaSem sig :=
  ((a.slice (Rect.unit (s := S7) ![h.val] S1.size (sem_inb h))).squeeze S_ squeezes_S1_S_).sem

theorem slotQ_words {a : Memref sig .tc .vmem S2x256x4096 .bf16} (ha : a.IsWhole) (p : Fin 2) : (slotQ a p).view.WordExact := by
  have h (p : Fin 2) : (slotR p).WholeWords (EltTy.packing .bf16) := by
    fin_cases p
    · exact wordsbf16_S2x256x4096_S1x256x4096_0_0_0
    · exact wordsbf16_S2x256x4096_S1x256x4096_1_0_0
  exact (ha.wordExact_slice rfl _ (h p)).reshape _ _

/-- The one-element rectangle of the scalar memory. -/
abbrev smR : Rect S1 := Rect.unit (s := S1) ![0] S1.size inb_S1_S1_0

/-- A block of 256 rows of the result. -/
abbrev rowR (off : Fin 2 → Nat) (inb : ∀ a, off a + S256x1024.size a ≤ S4096x1024.size a) : Rect S4096x1024 :=
  Rect.unit (s := S4096x1024) off S256x1024.size inb

section
variable (arg0 : Memref sig .tc .vmem S512x4096 .f32) (arg1 : Memref sig .tc .vmem S4096x1024 .f32) (arg2 : Memref sig .tc .vmem S4096x1024 .f32)
  (arg3 arg4 : Memref sig .tc .vmem S2x256x4096 .bf16) (harg3 : arg3.IsWhole) (harg4 : arg4.IsWhole)
  (arg5 arg6 arg7 arg8 : DmaSems sig S7) (arg9 arg10 : Sems sig S_) (arg11 : Memref sig .tc .smem S1 .f32)
  (arg12 : Memref sig .tc .vmem S1x128 .f32) (harg12 : arg12.IsWhole) (arg13 : Memref sig .tc .vmem S8x128 .f32) (arg14 arg15 : DmaSems sig S7)

/-- One block of the product: slot `p` of `a` by the weights, into the result's rows `off`; the running maximum. -/
def gemmProg (a : Memref sig .tc .vmem S2x256x4096 .bf16) (p : Fin 2) (off : Fin 2 → Nat)
    (inb : ∀ a, off a + S256x1024.size a ≤ S4096x1024.size a) (k : P F) : P F :=
  .op (.load a (slotR p).toLoadRect (View.loadsAt_vmem h_S1x256x4096)) fun v =>
  .op (.load arg1 (Rect.unit (s := S4096x1024) ![0, 0] S4096x1024.size inb_S4096x1024_S4096x1024_0_0).toLoadRect (View.loadsAt_vmem h_S4096x1024)) fun w =>
  .op (.load arg2 (rowR off inb).toLoadRect (View.loadsAt_vmem h_S256x1024)) fun _ =>
  .op (.store arg2 (rowR off inb) (k0_pay5 v w) Finset.univ (View.stores_vmem_bits_univ h_S256x1024 rfl) (.inl rfl)) fun _ =>
  smemLoadElt arg11 smR (View.loads_smem_one rfl numel1_S1) (Shape.Idx.first (numel1_S1.symm ▸ Nat.one_pos)) fun u =>
  smemLoadElt arg11 smR (View.loads_smem_one rfl numel1_S1) (Shape.Idx.first (numel1_S1.symm ▸ Nat.one_pos)) fun _ =>
  .op (.store arg11 smR (fun _ => k0_pay6 v w u) Finset.univ (View.stores_smem_one rfl numel1_S1) (.inl rfl)) fun _ => k

/-- The credits a hop waits for. -/
def creditsProg (k : P F) : P F :=
  .op (.semWait arg9.sem ((1 : ℕ) : ℤ)) fun _ => .op (.semWait arg10.sem ((1 : ℕ) : ℤ)) fun _ => k

/-- The two transfers of a hop: slot `s` here into slot `r` of the next device of each half ring. -/
def sendsProg (h : Fin 7) (s r : Fin 2) (dR dL : Dev nD) (k : P F) : P F :=
  .op (.enqueueDma (slotQ arg3 s) (.remote (Dev.tc dR) (slotQ arg3 r) (.dma (semAt arg5 h))) (.dma (semAt arg6 h))
    (slotQ_words harg3 s) (slotQ_words harg3 r) ⟨⟨rfl, Or.inl rfl⟩, trivial⟩) fun _ =>
  .op (.enqueueDma (slotQ arg4 s) (.remote (Dev.tc dL) (slotQ arg4 r) (.dma (semAt arg7 h))) (.dma (semAt arg8 h))
    (slotQ_words harg4 s) (slotQ_words harg4 r) ⟨⟨rfl, Or.inl rfl⟩, trivial⟩) fun _ => k

/-- The waits for a hop's own transfers to be read out. -/
def sentProg (h : Fin 7) (s r : Fin 2) (k : P F) : P F :=
  .op (.waitDma2 (semAt arg5 h) (slotQ arg3 r) (slotQ arg3 s) (slotQ_words harg3 r) (slotQ_words harg3 s)) fun _ =>
  .op (.waitDma2 (semAt arg7 h) (slotQ arg4 r) (slotQ arg4 s) (slotQ_words harg4 r) (slotQ_words harg4 s)) fun _ => k

/-- The credits a hop gives. -/
def signalsProg (dL dR : Dev nD) (k : P F) : P F :=
  .op (.semSignal (Dev.tc dL) arg9.sem ((1 : ℕ) : ℤ)) fun _ => .op (.semSignal (Dev.tc dR) arg10.sem ((1 : ℕ) : ℤ)) fun _ => k

/-- The waits for the chunks of the next hop to land. -/
def landedProg (h : Fin 7) (s r : Fin 2) (k : P F) : P F :=
  .op (.waitDma2 (semAt arg6 h) (slotQ arg3 s) (slotQ arg3 r) (slotQ_words harg3 s) (slotQ_words harg3 r)) fun _ =>
  .op (.waitDma2 (semAt arg8 h) (slotQ arg4 s) (slotQ arg4 r) (slotQ_words harg4 s) (slotQ_words harg4 r)) fun _ => k

/-- The entry handshake with both neighbours, and the chunks of the device's own rows. -/
def prologueProg (dL dR : Dev nD) (k : P F) : P F :=
  .op (.semSignal (Dev.tc dL) barS ((1 : ℕ) : ℤ)) fun _ =>
  .op (.semSignal (Dev.tc dR) barS ((1 : ℕ) : ℤ)) fun _ =>
  .op (.semWait barS ((2 : ℕ) : ℤ)) fun _ =>
  smemLoadElt arg11 smR (View.loads_smem_one rfl numel1_S1) (Shape.Idx.first (numel1_S1.symm ▸ Nat.one_pos)) fun _ =>
  .op (.store arg11 smR (fun _ => Scalar.ofBits .f32 0x00000000#32) Finset.univ (View.stores_smem_one rfl numel1_S1) (.inl rfl)) fun _ =>
  .op (.load arg0 (Rect.unit (s := S512x4096) ![0, 0] S256x4096.size inb_S512x4096_S256x4096_0_0).toLoadRect (View.loadsAt_vmem h_S256x4096)) fun x =>
  .op (.load arg3 (slotR 0).toLoadRect (View.loadsAt_vmem h_S1x256x4096)) fun _ =>
  .op (.store arg3 (slotR 0) (k0_pay3 x) Finset.univ (View.stores_vmem h_S1x256x4096 (harg3.storeExact_slice rfl _ packedbf16_S2x256x4096_S1x256x4096_0_0_0) (fun _ => rfl)) (.inl rfl)) fun _ =>
  .op (.load arg0 (Rect.unit (s := S512x4096) ![256, 0] S256x4096.size inb_S512x4096_S256x4096_256_0).toLoadRect (View.loadsAt_vmem h_S256x4096)) fun x =>
  .op (.load arg4 (slotR 0).toLoadRect (View.loadsAt_vmem h_S1x256x4096)) fun _ =>
  .op (.store arg4 (slotR 0) (k0_pay4 x) Finset.univ (View.stores_vmem h_S1x256x4096 (harg4.storeExact_slice rfl _ packedbf16_S2x256x4096_S1x256x4096_0_0_0) (fun _ => rfl)) (.inl rfl)) fun _ => k

/-- One row of the table of maxima. -/
abbrev maxR (off : Fin 2 → Nat) (inb : ∀ a, off a + S1x128.size a ≤ S8x128.size a) : Rect S8x128 :=
  Rect.unit (s := S8x128) off S1x128.size inb

/-- The device's own maximum, spread over a row, into the source row and into its row of the table. -/
def ownMaxProg (off : Fin 2 → Nat) (inb : ∀ a, off a + S1x128.size a ≤ S8x128.size a) (k : P F) : P F :=
  smemLoadElt arg11 smR (View.loads_smem_one rfl numel1_S1) (Shape.Idx.first (numel1_S1.symm ▸ Nat.one_pos)) fun u =>
  .op (.load arg12 (Rect.unit (s := S1x128) ![0, 0] S1x128.size inb_S1x128_S1x128_0_0).toLoadRect (View.loadsAt_vmem h_S1x128)) fun _ =>
  .op (.store arg12 (Rect.unit (s := S1x128) ![0, 0] S1x128.size inb_S1x128_S1x128_0_0) (k0_pay43 u) Finset.univ (View.stores_vmem_bits_univ h_S1x128 rfl) (.inl rfl)) fun _ =>
  .op (.load arg13 (maxR off inb).toLoadRect (View.loadsAt_vmem h_S1x128)) fun _ =>
  .op (.store arg13 (maxR off inb) (k0_pay44 u) Finset.univ (View.stores_vmem_bits_univ h_S1x128 rfl) (.inl rfl)) fun _ => k

/-- One transfer of the source row into the table of another device. -/
def maxSendProg (h : Fin 7) (off : Fin 2 → Nat) (inb : ∀ a, off a + S1x128.size a ≤ S8x128.size a) (d : Dev nD) (k : P F) : P F :=
  .op (.enqueueDma arg12 (.remote (Dev.tc d) (arg13.slice (maxR off inb) (fun _ => rfl)) (.dma (semAt arg14 h))) (.dma (semAt arg15 h))
    harg12.wordExact (View.wordExact_bits rfl) ⟨⟨rfl, Or.inl rfl⟩, trivial⟩) fun _ => k

/-- The wait for one row of the table to land. -/
def maxLandedProg (h : Fin 7) (off : Fin 2 → Nat) (inb : ∀ a, off a + S1x128.size a ≤ S8x128.size a) (k : P F) : P F :=
  .op (.waitDma2 (semAt arg15 h) arg12 (arg13.slice (maxR off inb) (fun _ => rfl)) harg12.wordExact (View.wordExact_bits rfl)) fun _ => k

/-- The wait for one transfer of the source row to be read out. -/
def maxSentProg (h : Fin 7) (off : Fin 2 → Nat) (inb : ∀ a, off a + S1x128.size a ≤ S8x128.size a) (k : P F) : P F :=
  .op (.waitDma2 (semAt arg14 h) (arg13.slice (maxR off inb) (fun _ => rfl)) arg12 (View.wordExact_bits rfl) harg12.wordExact) fun _ => k

theorem quant_inb (b : Fin 8) : ∀ a, (![512 * b.val, 0] : Fin 2 → Nat) a + S512x1024.size a ≤ S4096x1024.size a := by
  fin_cases b <;> decide

/-- A block of 512 rows of the result. -/
abbrev quantR (b : Fin 8) : Rect S4096x1024 := Rect.unit (s := S4096x1024) ![512 * b.val, 0] S512x1024.size (quant_inb b)

/-- One block of the quantiser. -/
def quantProg (b : Fin 8) (u : Vec F S8x128 .f32) (k : P F) : P F :=
  .op (.load arg2 (quantR b).toLoadRect (View.loadsAt_vmem h_S512x1024)) fun y =>
  .op (.load arg2 (quantR b).toLoadRect (View.loadsAt_vmem h_S512x1024)) fun _ =>
  .op (.store arg2 (quantR b) (k0_pay47 u y) Finset.univ (View.stores_vmem_bits_univ h_S512x1024 rfl) (.inl rfl)) fun _ => k

/-- The table of maxima read, and the quantiser over the whole result. -/
def quantsProg : P F :=
  .op (.load arg13 (Rect.unit (s := S8x128) ![0, 0] S8x128.size inb_S8x128_S8x128_0_0).toLoadRect (View.loadsAt_vmem h_S8x128)) fun u =>
  quantProg arg2 0 u <| quantProg arg2 1 u <| quantProg arg2 2 u <| quantProg arg2 3 u <|
  quantProg arg2 4 u <| quantProg arg2 5 u <| quantProg arg2 6 u <| quantProg arg2 7 u <| .ret ⟨⟩

/-- A hop up to its last wait for its own transfers. -/
def hopProg (h : Fin 7) (s r : Fin 2) (dR dL : Dev nD) (off off' : Fin 2 → Nat)
    (inb : ∀ a, off a + S256x1024.size a ≤ S4096x1024.size a) (inb' : ∀ a, off' a + S256x1024.size a ≤ S4096x1024.size a) (k : P F) : P F :=
  sendsProg arg3 arg4 harg3 harg4 arg5 arg6 arg7 arg8 h s r dR dL <|
  gemmProg arg1 arg2 arg11 arg3 s off inb <|
  gemmProg arg1 arg2 arg11 arg4 s off' inb' <|
  sentProg arg3 arg4 harg3 harg4 arg5 arg7 h s r k

/-- The exchange of the devices' maxima. -/
def maxProg (d0 : Dev nD) (k : P F) : P F :=
  ownMaxProg arg11 arg12 arg13 (k0_off4 d0) (k0_off4_inb d0) <|
  maxSendProg arg12 harg12 arg13 arg14 arg15 0 (k0_off5 d0) (k0_off5_inb d0) ⟨k0_dev29 d0, k0_dev29_lt d0⟩ <|
  maxSendProg arg12 harg12 arg13 arg14 arg15 1 (k0_off5 d0) (k0_off5_inb d0) ⟨k0_dev30 d0, k0_dev30_lt d0⟩ <|
  maxSendProg arg12 harg12 arg13 arg14 arg15 2 (k0_off5 d0) (k0_off5_inb d0) ⟨k0_dev31 d0, k0_dev31_lt d0⟩ <|
  maxSendProg arg12 harg12 arg13 arg14 arg15 3 (k0_off5 d0) (k0_off5_inb d0) ⟨k0_dev32 d0, k0_dev32_lt d0⟩ <|
  maxSendProg arg12 harg12 arg13 arg14 arg15 4 (k0_off5 d0) (k0_off5_inb d0) ⟨k0_dev33 d0, k0_dev33_lt d0⟩ <|
  maxSendProg arg12 harg12 arg13 arg14 arg15 5 (k0_off5 d0) (k0_off5_inb d0) ⟨k0_dev34 d0, k0_dev34_lt d0⟩ <|
  maxSendProg arg12 harg12 arg13 arg14 arg15 6 (k0_off5 d0) (k0_off5_inb d0) ⟨k0_dev35 d0, k0_dev35_lt d0⟩ <|
  maxLandedProg arg12 harg12 arg13 arg15 0 (k0_off6 d0 1#32) (k0_off6_inb d0 0) <|
  maxLandedProg arg12 harg12 arg13 arg15 1 (k0_off6 d0 2#32) (k0_off6_inb d0 1) <|
  maxLandedProg arg12 harg12 arg13 arg15 2 (k0_off6 d0 3#32) (k0_off6_inb d0 2) <|
  maxLandedProg arg12 harg12 arg13 arg15 3 (k0_off6 d0 4#32) (k0_off6_inb d0 3) <|
  maxLandedProg arg12 harg12 arg13 arg15 4 (k0_off6 d0 5#32) (k0_off6_inb d0 4) <|
  maxLandedProg arg12 harg12 arg13 arg15 5 (k0_off6 d0 6#32) (k0_off6_inb d0 5) <|
  maxLandedProg arg12 harg12 arg13 arg15 6 (k0_off6 d0 7#32) (k0_off6_inb d0 6) <|
  maxSentProg arg12 harg12 arg13 arg14 0 (k0_off5 d0) (k0_off5_inb d0) <|
  maxSentProg arg12 harg12 arg13 arg14 1 (k0_off5 d0) (k0_off5_inb d0) <|
  maxSentProg arg12 harg12 arg13 arg14 2 (k0_off5 d0) (k0_off5_inb d0) <|
  maxSentProg arg12 harg12 arg13 arg14 3 (k0_off5 d0) (k0_off5_inb d0) <|
  maxSentProg arg12 harg12 arg13 arg14 4 (k0_off5 d0) (k0_off5_inb d0) <|
  maxSentProg arg12 harg12 arg13 arg14 5 (k0_off5 d0) (k0_off5_inb d0) <|
  maxSentProg arg12 harg12 arg13 arg14 6 (k0_off5 d0) (k0_off5_inb d0) k

/-- The whole body on device `d0`. -/
def bodyProg (d0 : Dev nD) : P F :=
  prologueProg arg0 arg3 arg4 harg3 harg4 arg11 ⟨k0_dev1 d0, k0_dev1_lt d0⟩ ⟨k0_dev2 d0, k0_dev2_lt d0⟩ <|
  hopProg arg1 arg2 arg3 arg4 harg3 harg4 arg5 arg6 arg7 arg8 arg11 0 0 1 ⟨k0_dev3 d0, k0_dev3_lt d0⟩ ⟨k0_dev4 d0, k0_dev4_lt d0⟩
    (k0_off1 d0 0#32) (k0_off1 d0 256#32) (k0_off1_inb d0 0) (k0_off1_inb d0 1) <|
  signalsProg arg9 arg10 ⟨k0_dev5 d0, k0_dev5_lt d0⟩ ⟨k0_dev6 d0, k0_dev6_lt d0⟩ <|
  landedProg arg3 arg4 harg3 harg4 arg6 arg8 0 0 1 <|
  creditsProg arg9 arg10 <|
  hopProg arg1 arg2 arg3 arg4 harg3 harg4 arg5 arg6 arg7 arg8 arg11 1 1 0 ⟨k0_dev7 d0, k0_dev7_lt d0⟩ ⟨k0_dev8 d0, k0_dev8_lt d0⟩
    (k0_off2 d0 1#32 0#32) (k0_off3 d0 1#32 256#32) (k0_off2_inb d0 0) (k0_off3_inb d0 0) <|
  signalsProg arg9 arg10 ⟨k0_dev9 d0, k0_dev9_lt d0⟩ ⟨k0_dev10 d0, k0_dev10_lt d0⟩ <|
  landedProg arg3 arg4 harg3 harg4 arg6 arg8 1 1 0 <|
  creditsProg arg9 arg10 <|
  hopProg arg1 arg2 arg3 arg4 harg3 harg4 arg5 arg6 arg7 arg8 arg11 2 0 1 ⟨k0_dev11 d0, k0_dev11_lt d0⟩ ⟨k0_dev12 d0, k0_dev12_lt d0⟩
    (k0_off2 d0 2#32 0#32) (k0_off3 d0 2#32 256#32) (k0_off2_inb d0 1) (k0_off3_inb d0 1) <|
  signalsProg arg9 arg10 ⟨k0_dev13 d0, k0_dev13_lt d0⟩ ⟨k0_dev14 d0, k0_dev14_lt d0⟩ <|
  landedProg arg3 arg4 harg3 harg4 arg6 arg8 2 0 1 <|
  creditsProg arg9 arg10 <|
  hopProg arg1 arg2 arg3 arg4 harg3 harg4 arg5 arg6 arg7 arg8 arg11 3 1 0 ⟨k0_dev15 d0, k0_dev15_lt d0⟩ ⟨k0_dev16 d0, k0_dev16_lt d0⟩
    (k0_off2 d0 3#32 0#32) (k0_off3 d0 3#32 256#32) (k0_off2_inb d0 2) (k0_off3_inb d0 2) <|
  signalsProg arg9 arg10 ⟨k0_dev17 d0, k0_dev17_lt d0⟩ ⟨k0_dev18 d0, k0_dev18_lt d0⟩ <|
  landedProg arg3 arg4 harg3 harg4 arg6 arg8 3 1 0 <|
  creditsProg arg9 arg10 <|
  hopProg arg1 arg2 arg3 arg4 harg3 harg4 arg5 arg6 arg7 arg8 arg11 4 0 1 ⟨k0_dev19 d0, k0_dev19_lt d0⟩ ⟨k0_dev20 d0, k0_dev20_lt d0⟩
    (k0_off2 d0 4#32 0#32) (k0_off3 d0 4#32 256#32) (k0_off2_inb d0 3) (k0_off3_inb d0 3) <|
  signalsProg arg9 arg10 ⟨k0_dev21 d0, k0_dev21_lt d0⟩ ⟨k0_dev22 d0, k0_dev22_lt d0⟩ <|
  landedProg arg3 arg4 harg3 harg4 arg6 arg8 4 0 1 <|
  creditsProg arg9 arg10 <|
  hopProg arg1 arg2 arg3 arg4 harg3 harg4 arg5 arg6 arg7 arg8 arg11 5 1 0 ⟨k0_dev23 d0, k0_dev23_lt d0⟩ ⟨k0_dev24 d0, k0_dev24_lt d0⟩
    (k0_off2 d0 5#32 0#32) (k0_off3 d0 5#32 256#32) (k0_off2_inb d0 4) (k0_off3_inb d0 4) <|
  signalsProg arg9 arg10 ⟨k0_dev25 d0, k0_dev25_lt d0⟩ ⟨k0_dev26 d0, k0_dev26_lt d0⟩ <|
  landedProg arg3 arg4 harg3 harg4 arg6 arg8 5 1 0 <|
  creditsProg arg9 arg10 <|
  hopProg arg1 arg2 arg3 arg4 harg3 harg4 arg5 arg6 arg7 arg8 arg11 6 0 1 ⟨k0_dev27 d0, k0_dev27_lt d0⟩ ⟨k0_dev28 d0, k0_dev28_lt d0⟩
    (k0_off2 d0 6#32 0#32) (k0_off3 d0 6#32 256#32) (k0_off2_inb d0 5) (k0_off3_inb d0 5) <|
  landedProg arg3 arg4 harg3 harg4 arg6 arg8 6 0 1 <|
  gemmProg arg1 arg2 arg11 arg3 1 (k0_off3 d0 1#32 0#32) (k0_off3_inb d0 6) <|
  gemmProg arg1 arg2 arg11 arg4 1 (k0_off2 d0 1#32 256#32) (k0_off2_inb d0 6) <|
  maxProg arg11 arg12 harg12 arg13 arg14 arg15 d0 <|
  quantsProg arg2 arg13
end

set_option maxRecDepth 65536 in
set_option maxHeartbeats 4000000 in
/-- The printed body is the composition above, after the device's index is read. -/
theorem cc0_body_prog (arg0 : Memref sig .tc .vmem S512x4096 .f32) (harg0 : arg0.IsWhole) (arg1 : Memref sig .tc .vmem S4096x1024 .f32) (harg1 : arg1.IsWhole)
    (arg2 : Memref sig .tc .vmem S4096x1024 .f32) (harg2 : arg2.IsWhole) (arg3 : Memref sig .tc .vmem S2x256x4096 .bf16) (harg3 : arg3.IsWhole)
    (arg4 : Memref sig .tc .vmem S2x256x4096 .bf16) (harg4 : arg4.IsWhole) (arg5 arg6 arg7 arg8 : DmaSems sig S7) (arg9 arg10 : Sems sig S_)
    (arg11 : Memref sig .tc .smem S1 .f32) (harg11 : arg11.IsWhole) (arg12 : Memref sig .tc .vmem S1x128 .f32) (harg12 : arg12.IsWhole)
    (arg13 : Memref sig .tc .vmem S8x128 .f32) (harg13 : arg13.IsWhole) (arg14 arg15 : DmaSems sig S7) :
    cc0_body (F := F) arg0 harg0 arg1 harg1 arg2 harg2 arg3 harg3 arg4 harg4 arg5 arg6 arg7 arg8 arg9 arg10 arg11 harg11 arg12 harg12 arg13 harg13 arg14 arg15
      = .op .deviceId (fun d0 => bodyProg arg0 arg1 arg2 arg3 arg4 harg3 harg4 arg5 arg6 arg7 arg8 arg9 arg10 arg11 arg12 harg12 arg13 arg14 arg15 d0) := by
  rfl

end Cert.RingProof
end
-- ==== Proof.Ring.lean ====
/-
  The ring of the eight devices, the closed forms of the addresses and offsets the body computes, the contents every
  buffer holds, and the kernel's semaphore cells.

  The devices stand in a ring `0 1 2 3 7 6 5 4`: `rgt c` is the next one, `lft c` the one before. Each device cuts its 512
  rows of `x` in two chunks of 256 rows: `top`, which travels to the right, and `bot`, which travels to the left. Before
  hop `h` device `c` holds the top chunk of `lft^h c` and the bottom chunk of `rgt^h c`.
-/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Release
public import Idealize.ShloMosaic.Lib.Exec

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The ring -/

/-- The next device of the ring. -/
def rgt (c : Dev nD) : Dev nD := (![1, 2, 3, 7, 0, 4, 5, 6] : Fin 8 → Fin 8) c
/-- The device before. -/
def lft (c : Dev nD) : Dev nD := (![4, 0, 1, 2, 5, 6, 7, 3] : Fin 8 → Fin 8) c
/-- The device `k` further by number. -/
def plus (c : Dev nD) (k : ℕ) : Dev nD := ⟨(c.val + k) % 8, Nat.mod_lt _ (by decide)⟩
/-- The device `k` back by number. -/
def minus (c : Dev nD) (k : ℕ) : Dev nD := ⟨(c.val + (8 - k % 8)) % 8, Nat.mod_lt _ (by decide)⟩

theorem lft_rgt (c : Dev nD) : lft (rgt c) = c := by revert c; decide
theorem rgt_lft (c : Dev nD) : rgt (lft c) = c := by revert c; decide
theorem minus_plus (c : Dev nD) (h : Fin 7) : minus (plus c (h.val + 1)) (h.val + 1) = c := by revert c h; decide
theorem plus_minus (c : Dev nD) (h : Fin 7) : plus (minus c (h.val + 1)) (h.val + 1) = c := by revert c h; decide

/-- The device `n` further to the right, -/
abbrev rgtN (n : ℕ) (c : Dev nD) : Dev nD := rgt^[n] c
/-- and to the left. -/
abbrev lftN (n : ℕ) (c : Dev nD) : Dev nD := lft^[n] c

theorem rgtN_lft (n : ℕ) (c : Dev nD) : rgtN (n + 1) (lft c) = rgtN n c := by
  show rgt^[n] (rgt (lft c)) = _; rw [rgt_lft]
theorem lftN_rgt (n : ℕ) (c : Dev nD) : lftN (n + 1) (rgt c) = lftN n c := by
  show lft^[n] (lft (rgt c)) = _; rw [lft_rgt]

/-! ## The addresses and offsets the body computes -/

theorem dev_entry (c : Dev nD) : (⟨k0_dev1 c, k0_dev1_lt c⟩ : Dev nD) = lft c ∧ (⟨k0_dev2 c, k0_dev2_lt c⟩ : Dev nD) = rgt c := by
  revert c; decide +kernel
theorem dev_hop0 (c : Dev nD) : (⟨k0_dev3 c, k0_dev3_lt c⟩ : Dev nD) = rgt c ∧ (⟨k0_dev4 c, k0_dev4_lt c⟩ : Dev nD) = lft c
    ∧ (⟨k0_dev5 c, k0_dev5_lt c⟩ : Dev nD) = lft c ∧ (⟨k0_dev6 c, k0_dev6_lt c⟩ : Dev nD) = rgt c := by
  revert c; decide +kernel
theorem dev_hop1 (c : Dev nD) : (⟨k0_dev7 c, k0_dev7_lt c⟩ : Dev nD) = rgt c ∧ (⟨k0_dev8 c, k0_dev8_lt c⟩ : Dev nD) = lft c
    ∧ (⟨k0_dev9 c, k0_dev9_lt c⟩ : Dev nD) = lft c ∧ (⟨k0_dev10 c, k0_dev10_lt c⟩ : Dev nD) = rgt c := by
  revert c; decide +kernel
theorem dev_hop2 (c : Dev nD) : (⟨k0_dev11 c, k0_dev11_lt c⟩ : Dev nD) = rgt c ∧ (⟨k0_dev12 c, k0_dev12_lt c⟩ : Dev nD) = lft c
    ∧ (⟨k0_dev13 c, k0_dev13_lt c⟩ : Dev nD) = lft c ∧ (⟨k0_dev14 c, k0_dev14_lt c⟩ : Dev nD) = rgt c := by
  revert c; decide +kernel
theorem dev_hop3 (c : Dev nD) : (⟨k0_dev15 c, k0_dev15_lt c⟩ : Dev nD) = rgt c ∧ (⟨k0_dev16 c, k0_dev16_lt c⟩ : Dev nD) = lft c
    ∧ (⟨k0_dev17 c, k0_dev17_lt c⟩ : Dev nD) = lft c ∧ (⟨k0_dev18 c, k0_dev18_lt c⟩ : Dev nD) = rgt c := by
  revert c; decide +kernel
theorem dev_hop4 (c : Dev nD) : (⟨k0_dev19 c, k0_dev19_lt c⟩ : Dev nD) = rgt c ∧ (⟨k0_dev20 c, k0_dev20_lt c⟩ : Dev nD) = lft c
    ∧ (⟨k0_dev21 c, k0_dev21_lt c⟩ : Dev nD) = lft c ∧ (⟨k0_dev22 c, k0_dev22_lt c⟩ : Dev nD) = rgt c := by
  revert c; decide +kernel
theorem dev_hop5 (c : Dev nD) : (⟨k0_dev23 c, k0_dev23_lt c⟩ : Dev nD) = rgt c ∧ (⟨k0_dev24 c, k0_dev24_lt c⟩ : Dev nD) = lft c
    ∧ (⟨k0_dev25 c, k0_dev25_lt c⟩ : Dev nD) = lft c ∧ (⟨k0_dev26 c, k0_dev26_lt c⟩ : Dev nD) = rgt c := by
  revert c; decide +kernel
theorem dev_hop6 (c : Dev nD) : (⟨k0_dev27 c, k0_dev27_lt c⟩ : Dev nD) = rgt c ∧ (⟨k0_dev28 c, k0_dev28_lt c⟩ : Dev nD) = lft c := by
  revert c; decide +kernel
theorem dev_max (c : Dev nD) : (⟨k0_dev29 c, k0_dev29_lt c⟩ : Dev nD) = plus c 1 ∧ (⟨k0_dev30 c, k0_dev30_lt c⟩ : Dev nD) = plus c 2
    ∧ (⟨k0_dev31 c, k0_dev31_lt c⟩ : Dev nD) = plus c 3 ∧ (⟨k0_dev32 c, k0_dev32_lt c⟩ : Dev nD) = plus c 4
    ∧ (⟨k0_dev33 c, k0_dev33_lt c⟩ : Dev nD) = plus c 5 ∧ (⟨k0_dev34 c, k0_dev34_lt c⟩ : Dev nD) = plus c 6
    ∧ (⟨k0_dev35 c, k0_dev35_lt c⟩ : Dev nD) = plus c 7 := by
  revert c; decide +kernel

/-- The first row of the block of the result device `c` computes `n`-th. -/
def rowOf (c : Dev nD) (n : ℕ) : ℕ := if n % 2 = 0 then 512 * (lftN (n / 2) c).val else 512 * (rgtN (n / 2) c).val + 256

theorem off_hop0 (c : Dev nD) : k0_off1 c 0#32 = ![rowOf c 0, 0] ∧ k0_off1 c 256#32 = ![rowOf c 1, 0] := by
  revert c; decide +kernel
theorem off_hop1 (c : Dev nD) : k0_off2 c 1#32 0#32 = ![rowOf c 2, 0] ∧ k0_off3 c 1#32 256#32 = ![rowOf c 3, 0] := by
  revert c; decide +kernel
theorem off_hop2 (c : Dev nD) : k0_off2 c 2#32 0#32 = ![rowOf c 4, 0] ∧ k0_off3 c 2#32 256#32 = ![rowOf c 5, 0] := by
  revert c; decide +kernel
theorem off_hop3 (c : Dev nD) : k0_off2 c 3#32 0#32 = ![rowOf c 6, 0] ∧ k0_off3 c 3#32 256#32 = ![rowOf c 7, 0] := by
  revert c; decide +kernel
theorem off_hop4 (c : Dev nD) : k0_off2 c 4#32 0#32 = ![rowOf c 8, 0] ∧ k0_off3 c 4#32 256#32 = ![rowOf c 9, 0] := by
  revert c; decide +kernel
theorem off_hop5 (c : Dev nD) : k0_off2 c 5#32 0#32 = ![rowOf c 10, 0] ∧ k0_off3 c 5#32 256#32 = ![rowOf c 11, 0] := by
  revert c; decide +kernel
theorem off_hop6 (c : Dev nD) : k0_off2 c 6#32 0#32 = ![rowOf c 12, 0] ∧ k0_off3 c 6#32 256#32 = ![rowOf c 13, 0] := by
  revert c; decide +kernel
theorem off_last (c : Dev nD) : k0_off3 c 1#32 0#32 = ![rowOf c 14, 0] ∧ k0_off2 c 1#32 256#32 = ![rowOf c 15, 0] := by
  revert c; decide +kernel
theorem off_own (c : Dev nD) : k0_off4 c = ![c.val, 0] ∧ k0_off5 c = ![c.val, 0] := by
  revert c; decide +kernel
theorem off_landed (c : Dev nD) : k0_off6 c 1#32 = ![(minus c 1).val, 0] ∧ k0_off6 c 2#32 = ![(minus c 2).val, 0]
    ∧ k0_off6 c 3#32 = ![(minus c 3).val, 0] ∧ k0_off6 c 4#32 = ![(minus c 4).val, 0] ∧ k0_off6 c 5#32 = ![(minus c 5).val, 0]
    ∧ k0_off6 c 6#32 = ![(minus c 6).val, 0] ∧ k0_off6 c 7#32 = ![(minus c 7).val, 0] := by
  revert c; decide +kernel

theorem rowOf_inb (c : Dev nD) (n : ℕ) : ∀ a, (![rowOf c n, 0] : Fin 2 → Nat) a + S256x1024.size a ≤ S4096x1024.size a := by
  intro a
  have h : rowOf c n + 256 ≤ 4096 := by
    unfold rowOf
    have h1 := (lftN (n / 2) c).isLt
    have h2 := (rgtN (n / 2) c).isLt
    have e : nD = 8 := rfl
    split <;> omega
  fin_cases a
  · exact h
  · exact le_refl _

theorem row_inb (d : Dev nD) : ∀ a, (![d.val, 0] : Fin 2 → Nat) a + S1x128.size a ≤ S8x128.size a := by
  revert d; decide

/-! ## The buffers -/

abbrev xM : Memref sig .tc .vmem S512x4096 .f32 := Memref.whole cc0_stg0_0
abbrev wM : Memref sig .tc .vmem S4096x1024 .f32 := Memref.whole cc0_stg1_0
abbrev oM : Memref sig .tc .vmem S4096x1024 .f32 := Memref.whole cc0_stg2_0
/-- The double buffer of the chunks that travel to the right, -/
abbrev cwM : Memref sig .tc .vmem S2x256x4096 .bf16 := Memref.whole cc0_scratch0
/-- to the left; -/
abbrev ccwM : Memref sig .tc .vmem S2x256x4096 .bf16 := Memref.whole cc0_scratch1
/-- the running maximum, the row that is sent of it, the table of the eight devices' maxima. -/
abbrev smM : Memref sig .tc .smem S1 .f32 := Memref.whole cc0_scratch8
abbrev srcM : Memref sig .tc .vmem S1x128 .f32 := Memref.whole cc0_scratch9
abbrev tblM : Memref sig .tc .vmem S8x128 .f32 := Memref.whole cc0_scratch10
/-- Device `d`'s row of the table. -/
abbrev rowM (d : Dev nD) : Memref sig .tc .vmem S1x128 .f32 := tblM.slice (maxR ![d.val, 0] (row_inb d)) (fun _ => rfl)

/-! ## Contents -/

section Contents
variable (m : (ℓ : Loc nD τ sig) → Buf (Elt F) ℓ)

/-- Device `c`'s rows of `x` and columns of the weights. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

/-- The two chunks of device `o`'s rows. -/
def top (o : Dev nD) : Vec F S256x4096 .bf16 :=
  shapeCast S256x4096 (k0_pay3 (F := F) (xM.view.readAt (Elt F) (Rect.unit (s := S512x4096) ![0, 0] S256x4096.size inb_S512x4096_S256x4096_0_0).toLoadRect (xs m o)))
    shapeCasts_S1x256x4096_S256x4096
def bot (o : Dev nD) : Vec F S256x4096 .bf16 :=
  shapeCast S256x4096 (k0_pay4 (F := F) (xM.view.readAt (Elt F) (Rect.unit (s := S512x4096) ![256, 0] S256x4096.size inb_S512x4096_S256x4096_256_0).toLoadRect (xs m o)))
    shapeCasts_S1x256x4096_S256x4096

/-- A block of the product: a chunk by a device's columns, negatives cut to zero; -/
def blkOf (v : Vec F S256x4096 .bf16) (w : Vec F S4096x1024 .f32) : Vec F S256x1024 .f32 :=
  maximumf (matmul dot_S256x4096_S4096x1024_S256x1024_1_0_0_1_n_n none (extf .f32 v bitsLt_bf16_f32)
    (shapeCast S4096x1024 w shapeCasts_S4096x1024_S4096x1024) (constant S256x1024 .f32 0x00000000#32))
    (broadcast S256x1024 (Scalar.ofBits .f32 0x00000000#32))
/-- the running maximum with the block's entries. -/
def maxOf (v : Vec F S256x4096 .bf16) (w : Vec F S4096x1024 .f32) (u : F .f32) : F .f32 :=
  Scalar.maximumf u (extractAt ![0, 0, 0]
    (shapeCast S1x1x1 (multiReduction .maximumf [1, 2] S1 (shapeCast S1x256x1024 (blkOf v w) shapeCasts_S256x1024_S1x256x1024) 0xFF800000#32 reduces_S1x256x1024_S1 (.inl rfl) rfl)
      shapeCasts_S1_S1x1x1) inpos_S1x1x1_p0_0_0)

theorem pay5_eq (v : Vec F S1x256x4096 .bf16) (w : Vec F S4096x1024 .f32) :
    k0_pay5 v w = blkOf (shapeCast S256x4096 v shapeCasts_S1x256x4096_S256x4096) w := rfl
theorem pay6_eq (v : Vec F S1x256x4096 .bf16) (w : Vec F S4096x1024 .f32) (u : F .f32) :
    k0_pay6 v w u = maxOf (shapeCast S256x4096 v shapeCasts_S1x256x4096_S256x4096) w u := rfl

/-- The chunk device `c` multiplies `n`-th. -/
def chunkAt (c : Dev nD) (n : ℕ) : Vec F S256x4096 .bf16 := if n % 2 = 0 then top m (lftN (n / 2) c) else bot m (rgtN (n / 2) c)
/-- The running maximum of device `c` after `n` blocks. -/
def amaxAt (c : Dev nD) : ℕ → F .f32
  | 0 => Scalar.ofBits .f32 0x00000000#32
  | n + 1 => maxOf (chunkAt m c n) (ws m c) (amaxAt c n)
/-- The blocks device `c` has stored after `n` of them, the last one first. -/
def pieces (c : Dev nD) : ℕ → List (View.Piece (Elt F) S4096x1024 .f32)
  | 0 => []
  | n + 1 => ⟨rowR ![rowOf c n, 0] (rowOf_inb c n), blkOf (chunkAt m c n) (ws m c)⟩ :: pieces c n
/-- A device's maximum, spread over a row. -/
def maxRow (d : Dev nD) : Vec F S1x128 .f32 := fun _ => amaxAt m d 16
/-- The table of the devices' maxima. -/
def tblV : (cc0_scratch10 : Ref sig .tc).ty.Contents (Elt F) := fun i => amaxAt m (i 0) 16

theorem chunkAt_even (c : Dev nD) (h : ℕ) : chunkAt m c (2 * h) = top m (lftN h c) := by
  unfold chunkAt; rw [if_pos (by omega), show 2 * h / 2 = h by omega]
theorem chunkAt_odd (c : Dev nD) (h : ℕ) : chunkAt m c (2 * h + 1) = bot m (rgtN h c) := by
  unfold chunkAt; rw [if_neg (by omega), show (2 * h + 1) / 2 = h by omega]

theorem pay43_eq (d : Dev nD) : (k0_pay43 (amaxAt m d 16) : Vec F S1x128 .f32) = maxRow m d := rfl
theorem pay44_eq (d : Dev nD) : (k0_pay44 (amaxAt m d 16) : Vec F S1x128 .f32) = maxRow m d := rfl

/-- The result after the quantiser has gone over its first `b` blocks of 512 rows. -/
def quantW (u : Vec F S8x128 .f32) (f : (cc0_stg2_0 : Ref sig .tc).ty.Contents (Elt F)) : ℕ → (cc0_stg2_0 : Ref sig .tc).ty.Contents (Elt F)
  | 0 => f
  | b + 1 => if h : b < 8 then
      (oM.access (quantR ⟨b, h⟩)).write (Elt F) (quantW u f b) (k0_pay47 u (oM.view.readAt (Elt F) (quantR ⟨b, h⟩).toLoadRect (quantW u f b))) Finset.univ
    else quantW u f b

/-- What the result buffer holds at the end, started at `f`. -/
def outFrom (c : Dev nD) (f : (cc0_stg2_0 : Ref sig .tc).ty.Contents (Elt F)) : (cc0_stg2_0 : Ref sig .tc).ty.Contents (Elt F) :=
  quantW (tblV m) (oM.view.writes (Elt F) f (pieces m c 16)) 8

end Contents

/-! ## The cells -/

/-- A device's cells: for each hop the send and receive cells of the two half rings and of the exchange of the maxima;
    the two credit cells and the barrier cell. -/
abbrev Cell : Type := (Fin 7 × Fin 6) ⊕ Fin 3

def csem : Cell → SemLoc sig
  | .inl (h, a) => .dma ⟨3 + 7 * a.val + h.val, by have := a.isLt; have := h.isLt; show _ < 45; omega⟩
  | .inr b => .reg b

/-- The cell a semaphore is. -/
def cellOf? : SemLoc sig → Option Cell
  | .dma q => if 3 ≤ q.val then some (.inl (⟨(q.val - 3) % 7, Nat.mod_lt _ (by decide)⟩, ⟨(q.val - 3) / 7, by have : q.val < 45 := q.isLt; omega⟩)) else none
  | .reg b => some (.inr b)

theorem cellOf?_csem (k : Cell) : cellOf? (csem k) = some k := by
  rcases k with ⟨h, a⟩ | b
  · have hh := h.isLt
    unfold csem cellOf?
    dsimp only
    rw [if_pos (by omega)]
    congr 3
    · exact Fin.ext (by show (3 + 7 * a.val + h.val - 3) % 7 = h.val; omega)
    · exact Fin.ext (by show (3 + 7 * a.val + h.val - 3) / 7 = a.val; omega)
  · rfl
theorem csem_inj : Function.Injective csem := fun k k' h => Option.some.inj (by rw [← cellOf?_csem, ← cellOf?_csem, h])

abbrev kcell (ck : Dev nD × Cell) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

theorem sem_cwS (h : Fin 7) : (SemLoc.dma (semAt cc0_scratch2 h) : SemLoc sig) = csem (.inl (h, 0)) := by revert h; decide +kernel
theorem sem_cwR (h : Fin 7) : (SemLoc.dma (semAt cc0_scratch3 h) : SemLoc sig) = csem (.inl (h, 1)) := by revert h; decide +kernel
theorem sem_ccwS (h : Fin 7) : (SemLoc.dma (semAt cc0_scratch4 h) : SemLoc sig) = csem (.inl (h, 2)) := by revert h; decide +kernel
theorem sem_ccwR (h : Fin 7) : (SemLoc.dma (semAt cc0_scratch5 h) : SemLoc sig) = csem (.inl (h, 3)) := by revert h; decide +kernel
theorem sem_maxS (h : Fin 7) : (SemLoc.dma (semAt cc0_scratch11 h) : SemLoc sig) = csem (.inl (h, 4)) := by revert h; decide +kernel
theorem sem_maxR (h : Fin 7) : (SemLoc.dma (semAt cc0_scratch12 h) : SemLoc sig) = csem (.inl (h, 5)) := by revert h; decide +kernel
theorem sem_credR : (SemLoc.reg (cc0_scratch6 : Sems sig S_).sem : SemLoc sig) = csem (.inr 0) := by decide +kernel
theorem sem_credL : (SemLoc.reg (cc0_scratch7 : Sems sig S_).sem : SemLoc sig) = csem (.inr 1) := by decide +kernel
theorem sem_bar : (SemLoc.reg barS : SemLoc sig) = csem (.inr 2) := by decide +kernel

end Cert.RingProof
end
-- ==== Proof.Sched.lean ====
/-
  The protocol: what every semaphore of the kernel carries, what every device owes, and in which order.

  * A send cell carries the sent buffer back to its owner. A receive cell carries the slot the chunk has landed in.
  * A credit cell carries six duties, one a hop: the leave to write the slot that the neighbour has just sent away. Two
    credits may be under way at once and arrive in either order, so credit `j` carries the leaves `0 … j`, which are facts:
    whoever has taken `j + 1` credits has seen one of number at least `j`. The slot itself waits in an invariant, from which
    the writer takes it with the leave (`Release`).
  * The barrier cell carries each neighbour's slot 1, which hop 0 writes.
  * The rows of the table of the maxima travel to the left, as the chunks do: device `c` must come to own row `c` of every
    other device's table. They start with the barrier signal to the left and ride on the receive cells of the left half ring;
    each device keeps its row and forwards the others.
  * The waits are ordered by level: barrier 1, hop `h`'s landing `2h + 2`, credit `j` `2j + 3`, a row of the table 20;
    a device waits at a level only while all it owes lies above.
-/
module

public import proofs.«01_k».proof.Proof.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The resource algebra -/

abbrev UC : Type := URounds (GSem nD τ sig) ℕ
/-- A slot handed over at hop `n ≥ 1`: the device whose slot it is, whether of the right half ring, the hop. -/
abbrev Key : Type := Dev nD × Bool × ℕ
abbrev UU : Type := UR sig nD τ × (UC × Release.USlots Key)

local notation "𝕄" => MT nD τ sig ℕ (Elt F) ℕ UU ℕ

abbrev EP : Emb (UR sig nD τ) (MT nD τ sig ℕ (Elt F) ℕ UU ℕ) := embL
abbrev ER : Emb UC (MT nD τ sig ℕ (Elt F) ℕ UU ℕ) := Emb.inl.trans embR
abbrev ES : Emb (Release.USlots Key) (MT nD τ sig ℕ (Elt F) ℕ UU ℕ) := Emb.inr.trans embR

/-! ## The pieces of memory that move -/

/-- The parity of a hop: the slot it sends from. -/
def par (n : ℕ) : Fin 2 := ⟨n % 2, Nat.mod_lt _ (by decide)⟩

/-- Slot `p` of double buffer `a` on device `c`, at share `q`, holding `v`; -/
def held (a : Memref sig .tc .vmem S2x256x4096 .bf16) (c : Dev nD) (p : Fin 2) (q : PosShare TreeShare) (v : Vec F S256x4096 .bf16) : sProp 𝕄 :=
  (slotQ a p).view.loc (c : Thread nD τ) ↦[(slotQ a p).view.set]{q} (slotQ a p).view.rep v
/-- the slot whole, whatever it holds. -/
def free (a : Memref sig .tc .vmem S2x256x4096 .bf16) (c : Dev nD) (p : Fin 2) : sProp 𝕄 :=
  Release.slot ((slotQ a p).view.loc (c : Thread nD τ)) (slotQ a p).view.set

/-- Row `d` of device `c`'s table, whatever it holds; -/
def rowFree (c d : Dev nD) : sProp 𝕄 := Release.slot ((rowM d).view.loc (c : Thread nD τ)) (rowM d).view.set
/-- holding device `d`'s maximum. -/
def rowPts (m : (ℓ : Loc nD τ sig) → Buf (Elt F) ℓ) (c d : Dev nD) : sProp 𝕄 :=
  (rowM d).view.loc (c : Thread nD τ) ↦[(rowM d).view.set]{fullShare} (rowM d).view.rep (maxRow m d)

/-- The devices `1 … n` to the right. -/
def passed (c : Dev nD) (n : ℕ) : Finset (Dev nD) := (Finset.range n).image fun j => rgtN (j + 1) c
/-- The rows of the table of the device `n` to the right that are still to be handed on. -/
def fwd (c : Dev nD) (n : ℕ) : sProp 𝕄 := bigSep (Finset.univ \ passed c n) fun d => rowFree (rgtN n c) d

/-- The share of the sent row that transfer `k` of the exchange reads through, and what is left for the later ones. -/
def shRest : ℕ → PosShare TreeShare
  | 0 => fullShare
  | k + 1 => (shRest k).right
def shPart (k : ℕ) : PosShare TreeShare := (shRest k).left

/-- The row that is sent of device `c`'s maximum. -/
def srcPts (m : (ℓ : Loc nD τ sig) → Buf (Elt F) ℓ) (c : Dev nD) (q : PosShare TreeShare) : sProp 𝕄 :=
  srcM.view.loc (c : Thread nD τ) ↦[srcM.view.set]{q} srcM.view.rep (maxRow m c)

/-- Device `d`'s slots of hops `1 … j + 1` have been let go. -/
def leaves (d : Dev nD) (b : Bool) (j : ℕ) : sProp 𝕄 := bigSep (Finset.range (j + 1)) fun i => Release.released ES (d, b, i + 1) 1

instance held_storable (a : Memref sig .tc .vmem S2x256x4096 .bf16) (c : Dev nD) (p : Fin 2) (q : PosShare TreeShare) (v : Vec F S256x4096 .bf16) :
    BI.Storable (upEmb : UEmb _ 𝕄) (held a c p q v) := by unfold held; infer_instance
instance free_storable (a : Memref sig .tc .vmem S2x256x4096 .bf16) (c : Dev nD) (p : Fin 2) :
    BI.Storable (upEmb : UEmb _ 𝕄) (free (F := F) a c p) := by unfold free; infer_instance
instance rowFree_storable (c d : Dev nD) : BI.Storable (upEmb : UEmb _ 𝕄) (rowFree (F := F) c d) := by unfold rowFree; infer_instance
instance rowPts_storable (m : (ℓ : Loc nD τ sig) → Buf (Elt F) ℓ) (c d : Dev nD) : BI.Storable (upEmb : UEmb _ 𝕄) (rowPts m c d) := by
  unfold rowPts; infer_instance
instance fwd_storable (c : Dev nD) (n : ℕ) : BI.Storable (upEmb : UEmb _ 𝕄) (fwd (F := F) c n) := by unfold fwd; infer_instance
instance srcPts_storable (m : (ℓ : Loc nD τ sig) → Buf (Elt F) ℓ) (c : Dev nD) (q : PosShare TreeShare) :
    BI.Storable (upEmb : UEmb _ 𝕄) (srcPts m c q) := by unfold srcPts; infer_instance
instance leaves_storable (d : Dev nD) (b : Bool) (j : ℕ) : BI.Storable (upEmb : UEmb _ 𝕄) (leaves (F := F) d b j) := by
  unfold leaves; infer_instance
instance leaves_persistent (d : Dev nD) (b : Bool) (j : ℕ) : BI.Persistent (leaves (F := F) d b j) := by unfold leaves; infer_instance

/-! ## The schedule -/

/-- The credit of a transfer of a chunk on each half ring, and of a row of the table. -/
def Ncw : ℕ := (slotQ cwM 0).view.dmaCredit
def Nccw : ℕ := (slotQ ccwM 0).view.dmaCredit
def Nrow : ℕ := (rowM 0).view.dmaCredit

theorem Ncw_pos : 0 < Ncw := View.dmaCredit_pos _ (by decide +kernel)
theorem Nccw_pos : 0 < Nccw := View.dmaCredit_pos _ (by decide +kernel)
theorem Nrow_pos : 0 < Nrow := View.dmaCredit_pos _ (by decide +kernel)
theorem cw_credit (p : Fin 2) : (slotQ cwM p).view.dmaCredit = Ncw := rfl
theorem ccw_credit (p : Fin 2) : (slotQ ccwM p).view.dmaCredit = Nccw := rfl
theorem row_credit (d : Dev nD) : (rowM d).view.dmaCredit = Nrow := rfl

attribute [irreducible] Ncw Nccw Nrow

/-- The duties of a cell, all of round 0; -/
def dutiesOf : Cell → Finset ℕ
  | .inl _ => {0}
  | .inr 0 => Finset.range 6
  | .inr 1 => Finset.range 6
  | .inr 2 => Finset.range 2
/-- the amount of each; -/
def amtOf : Cell → ℕ
  | .inl (_, 0) => Ncw
  | .inl (_, 1) => Ncw
  | .inl (_, 2) => Nccw
  | .inl (_, 3) => Nccw
  | .inl (_, 4) => Nrow
  | .inl (_, 5) => Nrow
  | .inr _ => 1
theorem amtOf_pos (k : Cell) : 0 < amtOf k := by
  rcases k with ⟨h, a⟩ | b
  · fin_cases a
    · exact Ncw_pos
    · exact Ncw_pos
    · exact Nccw_pos
    · exact Nccw_pos
    · exact Nrow_pos
    · exact Nrow_pos
  · exact Nat.one_pos

variable (m : (ℓ : Loc nD τ sig) → Buf (Elt F) ℓ)

/-- what duty `d` of device `c`'s cell carries. -/
def pay (c : Dev nD) (k : Cell) (d : ℕ) : sProp 𝕄 :=
  match k with
  | .inl (h, 0) => held cwM c (par h.val) fullShare.left (top m (lftN h.val c))
  | .inl (h, 1) => held cwM c (par (h.val + 1)) fullShare (top m (lftN (h.val + 1) c))
  | .inl (h, 2) => held ccwM c (par h.val) fullShare.left (bot m (rgtN h.val c))
  | .inl (h, 3) => iprop(held ccwM c (par (h.val + 1)) fullShare (bot m (rgtN (h.val + 1) c)) ∗ fwd c (h.val + 2))
  | .inl (h, 4) => srcPts m c (shPart h.val)
  | .inl (h, 5) => rowPts m c (minus c (h.val + 1))
  | .inr 0 => leaves (rgt c) true d
  | .inr 1 => leaves (lft c) false d
  | .inr 2 => if d = 0 then free ccwM (lft c) 1 else iprop(free cwM (rgt c) 1 ∗ fwd c 1)

instance pay_storable (c : Dev nD) (k : Cell) (d : ℕ) : BI.Storable (upEmb : UEmb _ 𝕄) (pay m c k d) := by
  rcases k with ⟨h, a⟩ | b
  · fin_cases a <;> (dsimp only [pay]; infer_instance)
  · fin_cases b
    · dsimp only [pay]; infer_instance
    · dsimp only [pay]; infer_instance
    · show BI.Storable upEmb (if d = 0 then free ccwM (lft c) 1 else iprop(free cwM (rgt c) 1 ∗ fwd c 1))
      split <;> infer_instance

/-- The schedule. -/
def ringRd : Rounds.Schedule (GSem nD τ sig) ℕ 𝕄 where
  duties g r := match cellOf? g.2 with
    | some k => if r = 0 ∧ g.1.2 = .tc then dutiesOf k else ∅
    | none => ∅
  unitless _ := False
  amount g _ _ := match cellOf? g.2 with
    | some k => amtOf k
    | none => 1
  payload g _ d := match cellOf? g.2 with
    | some k => pay m g.1.1 k d
    | none => iprop(emp)
  amount_pos g _ _ _ := by
    cases cellOf? g.2 with
    | none => exact Nat.one_pos
    | some k => exact amtOf_pos k

instance ringRd_payload_storable (g : GSem nD τ sig) (r : ℕ) (d : ℕ) : BI.Storable (upEmb : UEmb _ 𝕄) ((ringRd (F := F) m).payload g r d) := by
  show BI.Storable upEmb (match cellOf? g.2 with | some k => pay m g.1.1 k d | none => iprop(emp))
  cases cellOf? g.2 <;> (dsimp only; infer_instance)

theorem duties_at (c : Dev nD) (k : Cell) : (ringRd (F := F) m).duties (kcell (c, k)) 0 = dutiesOf k := by
  dsimp only [ringRd]; rw [cellOf?_csem]; exact if_pos ⟨rfl, rfl⟩
theorem duties_later (g : GSem nD τ sig) : ∀ r, 1 ≤ r → (ringRd (F := F) m).duties g r = ∅ := by
  intro r hr
  dsimp only [ringRd]
  cases cellOf? g.2 with
  | none => rfl
  | some k => exact if_neg fun h => by omega
theorem amount_at (c : Dev nD) (k : Cell) (d : ℕ) : (ringRd (F := F) m).amount (kcell (c, k)) 0 d = amtOf k := by
  dsimp only [ringRd]; rw [cellOf?_csem]
theorem payload_at (c : Dev nD) (k : Cell) (d : ℕ) : (ringRd (F := F) m).payload (kcell (c, k)) 0 d = pay m c k d := by
  dsimp only [ringRd]; rw [cellOf?_csem]
theorem expect_at (c : Dev nD) (k : Cell) : (ringRd (F := F) m).expect (kcell (c, k)) 0 = (dutiesOf k).card * amtOf k := by
  unfold Schedule.expect Schedule.amountOf
  rw [duties_at, Finset.sum_congr rfl fun d _ => amount_at m c k d, Finset.sum_const, smul_eq_mul]

/-! ## What a device does for others: its duties -/

/-- A device's duties: for each hop and kind of cell, the transfer's; the credits to both neighbours; the two barrier
    signals. -/
abbrev Duty : Type := (Fin 7 × Fin 6) ⊕ ((Fin 6 × Fin 2) ⊕ Fin 2)
/-- The transfer duty of kind `a` at hop `h`; the credit of hop `j` to the left (0) or right (1); the barrier signal. -/
abbrev Duty.xfer (h : Fin 7) (a : Fin 6) : Duty := .inl (h, a)
abbrev Duty.credit (j : Fin 6) (b : Fin 2) : Duty := .inr (.inl (j, b))
abbrev Duty.entry (b : Fin 2) : Duty := .inr (.inr b)

/-- Whose cell a duty of device `c` is on, -/
def dutyDst : Duty → Dev nD → Dev nD
  | .inl (_, 1), c => rgt c
  | .inl (_, 3), c => lft c
  | .inl (h, 5), c => plus c (h.val + 1)
  | .inl (_, _), c => c
  | .inr (.inl (_, 0)), c => lft c
  | .inr (.inl (_, 1)), c => rgt c
  | .inr (.inr 0), c => lft c
  | .inr (.inr 1), c => rgt c
/-- which cell, -/
def dutyCell : Duty → Cell
  | .inl x => .inl x
  | .inr (.inl (_, 0)) => .inr 0
  | .inr (.inl (_, 1)) => .inr 1
  | .inr (.inr _) => .inr 2
/-- under which name, -/
def dutyNum : Duty → ℕ
  | .inl _ => 0
  | .inr (.inl (j, _)) => j.val
  | .inr (.inr 0) => 1
  | .inr (.inr 1) => 0
/-- and at which level. -/
def dutyLv : Duty → ℕ
  | .inl (h, 1) => 2 * h.val + 2
  | .inl (h, 3) => 2 * h.val + 2
  | .inl (_, 5) => 20
  | .inl _ => 0
  | .inr (.inl (j, _)) => 2 * j.val + 3
  | .inr (.inr _) => 1

theorem dutyLv_lt (e : Duty) : dutyLv e < 32 := by revert e; decide +kernel
theorem dutyNum_mem (e : Duty) : dutyNum e ∈ dutiesOf (dutyCell e) := by revert e; decide +kernel

/-- The cell of a duty of device `c`. -/
abbrev dutyG (c : Dev nD) (e : Duty) : GSem nD τ sig := kcell (dutyDst e c, dutyCell e)
/-- The right to do it, once. -/
def tok (c : Dev nD) (e : Duty) : sProp 𝕄 := dutyTok ER (dutyG c e) 0 (dutyNum e)

/-- What a list of duties makes a device owe, the first one outermost. -/
def owedL (c : Dev nD) : List Duty → CellTallies nD τ sig ℕ
  | [] => 0
  | e :: l => owedL c l + tallyAt (dutyG c e) (dutyLv e) (amtOf (dutyCell e))
def owesL (c : Dev nD) (l : List Duty) : sProp 𝕄 := iprop(∃ W, owes (c : Thread nD τ) (owedL c l) W)

/-- The duties of the exchange of the maxima, -/
def duesMax : List Duty := (List.finRange 7).map fun h => .xfer h 5
/-- of the last `k` hops and the exchange, -/
def duesHops : ℕ → List Duty
  | 0 => duesMax
  | 1 => .xfer 6 1 :: .xfer 6 3 :: duesMax
  | k + 2 => .xfer (Fin.ofNat 7 (5 - k)) 1 :: .xfer (Fin.ofNat 7 (5 - k)) 3 :: .credit (Fin.ofNat 6 (5 - k)) 0 :: .credit (Fin.ofNat 6 (5 - k)) 1 :: duesHops (k + 1)
/-- and of the whole body. -/
def dues : List Duty := .entry 0 :: .entry 1 :: duesHops 7

/-- What device `c` owes at the start. -/
def O₀ (c : Dev nD) : CellTallies nD τ sig ℕ := owedL c dues

/-! ## Levels -/

def L (g : GSem nD τ sig) : Finset ℕ := if g.1.2 = .tc then Finset.range 32 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 32 := if_pos rfl

theorem owedL_pos {c : Dev nD} {g : GSem nD τ sig} {i : ℕ} : ∀ {l : List Duty}, 0 < owedL c l g i → ∃ e ∈ l, g = dutyG c e ∧ i = dutyLv e
  | [], h => by
    exfalso; have : (owedL c [] : CellTallies nD τ sig ℕ) g i = 0 := rfl
    omega
  | e :: l, h => by
    unfold owedL at h
    rw [Pi.add_apply, Finsupp.add_apply, tallyAt_apply] at h
    by_cases hc : g = dutyG c e ∧ i = dutyLv e
    · exact ⟨e, List.mem_cons_self, hc.1, hc.2⟩
    · rw [if_neg hc, Nat.add_zero] at h
      obtain ⟨e', he', h'⟩ := owedL_pos h
      exact ⟨e', List.mem_cons_of_mem _ he', h'⟩

/-- A device may wait at a level below all it owes. -/
theorem mayWait (c : Dev nD) (sm : SemLoc sig) (n : ℕ) (l : List Duty) (hn : n < 32) (hl : ∀ e ∈ l, n < dutyLv e) :
    (levAts L lv : sProp 𝕄) ⊢ MayWait (c : Thread nD τ) sm n (owedL c l) :=
  MayOwe.of_cut (L := L) (lev := lv) n (fun p hp => by rw [Finset.mem_singleton.mp hp, L_tc]; exact Finset.mem_range.mpr hn)
    (fun g u hg => by
      obtain ⟨e, he, rfl, rfl⟩ := owedL_pos hg
      rw [L_tc]; exact Finset.mem_range.mpr (dutyLv_lt e))
    (fun p hp => by rw [Finset.mem_singleton.mp hp]; exact le_refl n)
    (fun g u hg => by
      obtain ⟨e, he, rfl, rfl⟩ := owedL_pos hg
      exact hl e he)

/-! ## The rows of the table on their way -/

theorem fwd_step (c : Dev nD) (h : Fin 7) : (fwd (F := F) c (h.val + 1)) = iprop(rowFree (rgtN (h.val + 1) c) c ∗ fwd (lft c) (h.val + 2)) := by
  have e : (Finset.univ \ passed c (h.val + 1) : Finset (Dev nD)) = insert c (Finset.univ \ passed (lft c) (h.val + 2))
      ∧ c ∉ (Finset.univ \ passed (lft c) (h.val + 2) : Finset (Dev nD)) := by
    revert c h; decide +kernel
  unfold fwd
  rw [e.1, bigSep_insert e.2, rgtN_lft]; rfl

theorem fwd_start (c : Dev nD) : (bigSep (Finset.univ.erase c) fun d => rowFree (F := F) c d) = fwd (lft c) 1 := by
  have e : (Finset.univ \ passed (lft c) 1 : Finset (Dev nD)) = Finset.univ.erase c := by revert c; decide +kernel
  unfold fwd
  rw [e, rgtN_lft]; rfl

end Cert.RingProof
end
-- ==== Proof.Rules.lean ====
/-
  The effects of the body one by one, under the protocol: a transfer, a signal, a wait, a credit.
-/
module

public import proofs.«01_k».proof.Proof.Sched

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

abbrev 𝒱₀ : Variants := Variants.none

/-- A program of device `c`'s core, to the postcondition `Q`. -/
abbrev wpc (c : Dev nD) (p : P F) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## What everybody knows -/

/-- The slots handed over: of each device and half ring, one for each of the hops `1 … 6`. -/
def keys : Finset Key := Finset.univ ×ˢ Finset.univ ×ˢ Finset.Icc 1 6
/-- The slot hop `n` writes. -/
def slotOf (k : Key) : sProp 𝕄 := free (if k.2.1 then cwM else ccwM) k.1 (par (k.2.2 + 1))
instance slotOf_storable (k : Key) : BI.Storable (upEmb : UEmb _ 𝕄) (slotOf (F := F) k) := by unfold slotOf; infer_instance

variable (K : Dev nD × Cell → ℕ) (Ks : Key → ℕ)

/-- The invariants of all cells and handed over slots, and the levels. -/
def ctx : sProp 𝕄 :=
  iprop((bigSep Finset.univ fun ck : Dev nD × Cell => iprop(cellInv ER (ringRd m) (K ck) (kcell ck) ∗ reached ER (kcell ck) 0))
    ∗ (bigSep keys fun k => Release.slotInv ES (Ks k) k (slotOf k)) ∗ levAts L lv)
instance ctx_persistent : BI.Persistent (ctx m K Ks) := by unfold ctx; infer_instance

theorem ctx_cell (ck : Dev nD × Cell) : ctx m K Ks ⊢ iprop(cellInv ER (ringRd m) (K ck) (kcell ck) ∗ reached ER (kcell ck) 0) := by
  unfold ctx
  have he : (bigSep Finset.univ fun ck : Dev nD × Cell => iprop(cellInv ER (ringRd m) (K ck) (kcell ck) ∗ reached ER (kcell ck) 0) : sProp 𝕄)
      ⊢ iprop(cellInv ER (ringRd m) (K ck) (kcell ck) ∗ reached ER (kcell ck) 0) := bigSep_elim (Finset.mem_univ ck)
  iintro ⟨#H, -, -⟩
  iapply he
  iexact H
theorem ctx_slot (k : Key) (hk : k ∈ keys) : ctx m K Ks ⊢ Release.slotInv ES (Ks k) k (slotOf k) := by
  unfold ctx
  have he : (bigSep keys fun k => Release.slotInv ES (Ks k) k (slotOf k) : sProp 𝕄) ⊢ Release.slotInv ES (Ks k) k (slotOf k) := bigSep_elim hk
  iintro ⟨-, #H, -⟩
  iapply he
  iexact H
theorem ctx_lev : ctx m K Ks ⊢ (levAts L lv : sProp 𝕄) := by
  unfold ctx
  iintro ⟨-, -, #H⟩
  iexact H

variable {m K Ks}

/-! ## Transfers -/

/-- A transfer that pays duty `xfer h b` of the other device and, once read out, its own send cell `(h, a)`. -/
theorem wp_xfer (c c' : Dev nD) (h : Fin 7) (a b : Fin 6) (hc' : c' = dutyDst (.xfer h b) c) (ha : dutyDst (.xfer h a) c = c)
    {s : Shape} {e : EltTy} {src : Memref sig .tc .vmem s e} {dst : Memref sig (Dev.tc c' : Thread nD τ).2.kind .vmem s e} {hsc : dst.view.ref.isScScratch = false} {sS sR : SemLoc sig}
    (hS : sS = csem (.inl (h, a))) (hR : sR = csem (.inl (h, b))) (N : ℕ) (hN : dst.view.amount sR = N)
    (hNa : amtOf (.inl (h, a)) = N) (hNb : amtOf (.inl (h, b)) = N)
    {hsrc : src.view.WordExact} {hdst : dst.view.WordExact} {hsem : DmaTarget.Typed .vmem sR (.remote (Dev.tc c' : Thread nD τ) dst sS hsc)}
    {q : PosShare TreeShare} {fs : Buf (Elt F) (src.view.loc (c : Thread nD τ))} {fd : Buf (Elt F) (dst.view.loc (c' : Thread nD τ))} {Fr : sProp 𝕄}
    (hpay₁ : (src.view.loc (c : Thread nD τ) ↦[src.view.set]{q} fs) ⊢ pay m c (.inl (h, a)) 0)
    (hpay₂ : iprop((dst.view.loc (c' : Thread nD τ) ↦[dst.view.set]{fullShare} (dst.view.write (Elt F) fd (src.view.read (Elt F) fs) Finset.univ)) ∗ Fr)
      ⊢ pay m c' (.inl (h, b)) 0)
    {l : List Duty} {k : PUnit → P F} {Q : PUnit → sProp 𝕄} :
    iprop(ctx m K Ks ∗ (src.view.loc (c : Thread nD τ) ↦[src.view.set]{q} fs) ∗ ((dst.view.loc (c' : Thread nD τ) ↦[dst.view.set]{fullShare} fd) ∗ Fr)
        ∗ owesL c (.xfer h b :: l) ∗ tok c (.xfer h a) ∗ tok c (.xfer h b))
      ⊢ iprop(((cred (tallyAt (kcell (c, .inl (h, a))) 0 N) ∗ owesL c l) -∗ wpc c (k ⟨⟩) Q)
          -∗ wpc c (.op (.enqueueDma src (.remote (Dev.tc c' : Thread nD τ) dst sS hsc) sR hsrc hdst hsem) k) Q) := by
  subst hS hR
  subst hNa
  unfold owesL
  iintro ⟨#Hc, Hs, Hd, ⟨%W, HO⟩, Ht, Ht'⟩ Hk
  ihave #H1 := (ctx_cell m K Ks (c, .inl (h, a))) $$ Hc
  ihave #H2 := (ctx_cell m K Ks (c', .inl (h, b))) $$ Hc
  icases H1 with ⟨#Hi1, #Hr1⟩
  icases H2 with ⟨#Hi2, #Hr2⟩
  unfold tok dutyG
  have hO : owedL c (.xfer h b :: l) = owedL c l + tallyAt ((c' : Thread nD τ), csem (.inl (h, b))) (dutyLv (.xfer h b)) (amtOf (.inl (h, a))) := by
    rw [hc', ← hNb]; rfl
  rw [ha, ← hc']
  iapply (Rounds.wp_send_pointsTo_with 𝒱₀ ER (ringRd m) (c : Thread nD τ) none (κ₁ := K (c, .inl (h, a))) (κ₂ := K (c', .inl (h, b)))
    (r₁ := 0) (r₂ := 0) (d₁ := 0) (d₂ := 0) (fd := fd) (F := Fr) (q := q) (fs := fs)
    (by rw [duties_at]; exact Finset.mem_singleton_self _) (by rw [duties_at]; exact Finset.mem_singleton_self _)
    (dutyLv (.xfer h b)) 0 (amtOf (.inl (h, a))) hN (amount_at m c _ 0) ((amount_at m c' _ 0).trans hNb) (O₀ := owedL c (.xfer h b :: l)) (owedL c l)
    hO (W := W)
    (by rw [payload_at]; exact hpay₁) (by rw [payload_at]; exact hpay₂)) $$ [Hs Hd HO Ht Ht']
  · isplitr; · iexact Hi1
    isplitr; · iexact Hi2
    isplitl [Hs]; · iexact Hs
    isplitl [Hd]; · iexact Hd
    isplitl [HO]; · iexact HO
    isplitl [Ht]; · iexact Ht
    isplitr; · iexact Hr1
    isplitl [Ht']; · iexact Ht'
    iexact Hr2
  iintro ⟨Hcr, HO⟩
  iapply Hk
  isplitl [Hcr]; · iexact Hcr
  iexists W; iexact HO

/-! ## Signals -/

/-- A signal that pays duty `e`. -/
theorem wp_sig (c c' : Dev nD) (e : Duty) (hc' : c' = dutyDst e c) (he : amtOf (dutyCell e) = 1) {sem : Sem sig} (hs : SemLoc.reg sem = csem (dutyCell e))
    {l : List Duty} {k : PUnit → P F} {Q : PUnit → sProp 𝕄} :
    iprop(ctx m K Ks ∗ owesL c (e :: l) ∗ tok c e ∗ pay m c' (dutyCell e) (dutyNum e))
      ⊢ iprop((owesL c l -∗ wpc c (k ⟨⟩) Q) -∗ wpc c (.op (.semSignal (Dev.tc c' : Thread nD τ) sem ((1 : ℕ) : ℤ)) k) Q) := by
  subst hc'
  unfold owesL
  iintro ⟨#Hc, ⟨%W, HO⟩, Ht, Hp⟩ Hk
  ihave #H1 := (ctx_cell m K Ks (dutyDst e c, dutyCell e)) $$ Hc
  icases H1 with ⟨#Hi1, #Hr1⟩
  have hg : (((dutyDst e c : Dev nD) : Thread nD τ), SemLoc.reg sem) = kcell (dutyDst e c, dutyCell e) := by rw [hs]
  unfold tok dutyG
  iapply (Rounds.wp_signal 𝒱₀ ER (ringRd m) (c : Thread nD τ) none (dst := ((dutyDst e c : Dev nD) : Thread nD τ)) (κ := K (dutyDst e c, dutyCell e))
      (r := 0) (d := dutyNum e) (k' := 1)
      (by rw [hg, duties_at]; exact dutyNum_mem e) (by rw [hg, amount_at]; exact he) (dutyLv e) (owedL c l)
      (by rw [hg, ← he]; rfl) (O₀ := owedL c (e :: l))) $$ [HO Ht Hp]
  · rw [hg, payload_at]
    isplitr; · iexact Hi1
    isplitl [HO]; · iexact HO
    isplitl [Ht]; · iexact Ht
    isplitl [Hp]; · iexact Hp
    iexact Hr1
  iintro HO
  iapply Hk
  iexists W; iexact HO

/-! ## Waits -/

/-- A wait for all of a cell: what its duties carry, and the counter back at zero. -/
theorem wp_take (c : Dev nD) (k : Cell) (n i : ℕ) (l : List Duty) (hn : (dutiesOf k).card * amtOf k = n) (hi : i < 32) (hl : ∀ e ∈ l, i < dutyLv e)
    {w : TpuEff nD τ sig (Elt F) Λ₀ .tc PUnit} {sm : SemLoc sig} (hs : sm = csem k)
    (hw : ∀ Kt : PUnit → sProp 𝕄, wpE (defs₀ (F := F)) 𝒱₀ (c : Thread nD τ) none Set.univ w Kt = waitSpec (c : Thread nD τ) Set.univ sm n Kt)
    {p : PUnit → P F} {Q : PUnit → sProp 𝕄} :
    iprop(ctx m K Ks ∗ cred (tallyAt (kcell (c, k)) i n) ∗ owesL c l ∗ atPos ER (kcell (c, k)) 0 ∅ 0)
      ⊢ iprop(((owesL c l ∗ semVal (kcell (c, k)) 0 ∗ bigSep (dutiesOf k) (pay m c k)) -∗ wpc c (p ⟨⟩) Q)
          -∗ wpc c (.op w p) Q) := by
  subst hs
  unfold owesL
  iintro ⟨#Hc, Hcr, ⟨%W, HO⟩, Hat⟩ Hk
  ihave #H1 := (ctx_cell m K Ks (c, k)) $$ Hc
  icases H1 with ⟨#Hi1, #Hr1⟩
  ihave #Hlev := (ctx_lev m K Ks) $$ Hc
  iapply (Rounds.wp_wait_rest_token 𝒱₀ ER (ringRd m) (c : Thread nD τ) none (κ := K (c, k)) hw (Set.mem_univ _) i (O := owedL c l) (W := W) (R := 0) (m := 0) (T := ∅)
      (by rw [Nat.zero_add, expect_at, hn])) $$ [Hcr HO Hat]
  · isplitr; · iexact Hi1
    isplitl [Hcr]; · iexact Hcr
    isplitl [HO]; · iexact HO
    isplitr; · iapply (mayWait c (csem k) i l hi hl); iexact Hlev
    iexact Hat
  iintro ⟨HO, Hat, -, Hp⟩
  imod (Rounds.cell_close ER (ringRd m) (Set.mem_univ (K (c, k))) (fun h => h) (R := 0 + 1) (duties_later m (kcell (c, k)))) $$ [Hat] with Hz
  · isplitr; · iexact Hi1
    iexact Hat
  iapply Hk
  isplitl [HO]; · iexists _; iexact HO
  isplitl [Hz]; · iexact Hz
  rw [duties_at, Finset.sdiff_empty]
  have hp : (bigSep (dutiesOf k) (fun d => (ringRd m).payload (kcell (c, k)) 0 d) : sProp 𝕄) ⊢ bigSep (dutiesOf k) (pay m c k) :=
    bigSep_mono fun d _ => Entails.of_eq (payload_at m c k d)
  iapply hp
  iexact Hp

/-! ## Credits -/

/-- The credit cell of a half ring, and the neighbour whose slot the credits are for. -/
def credK (t : Bool) : Cell := .inr (if t then 0 else 1)
def nb (c : Dev nD) (t : Bool) : Dev nD := if t then rgt c else lft c

theorem pay_cred (c : Dev nD) (t : Bool) (d : ℕ) : pay m c (credK t) d = leaves (nb c t) t d := by cases t <;> rfl
theorem duties_cred (t : Bool) : dutiesOf (credK t) = Finset.range 6 := by cases t <;> rfl
theorem amt_cred (t : Bool) : amtOf (credK t) = 1 := by cases t <;> rfl

/-- After `j` credits have been taken: some of the six have landed, and their leaves are known. -/
def credSt (c : Dev nD) (t : Bool) (j : ℕ) : sProp 𝕄 :=
  iprop(∃ T : Finset ℕ, ⌜T ⊆ Finset.range 6 ∧ j + (Finset.range 6 \ T).card ≤ 6⌝ ∗ atPos ER (kcell (c, credK t)) 0 T j ∗ bigSep T (leaves (nb c t) t))

/-- Whoever has taken `j + 1` credits has one of number at least `j`. -/
theorem late_credit {T : Finset ℕ} {j : ℕ} (hT : T ⊆ Finset.range 6) (hc : j + 1 + (Finset.range 6 \ T).card ≤ 6) : ∃ i ∈ T, j ≤ i := by
  by_contra hno
  push Not at hno
  have h1 : T ⊆ Finset.range j := fun i hi => Finset.mem_range.mpr (hno i hi)
  have h2 := Finset.card_le_card h1
  have h3 := Finset.card_sdiff_add_card_eq_card hT
  rw [Finset.card_range] at h2 h3
  omega

theorem leaves_at (d : Dev nD) (t : Bool) (i j : ℕ) (h : j ≤ i) : (leaves d t i : sProp 𝕄) ⊢ Release.released ES (d, t, j + 1) 1 := by
  unfold leaves
  exact bigSep_elim (Φ := fun i => Release.released ES (d, t, i + 1) 1) (Finset.mem_range.mpr (by omega))

/-- Credit `j`: the leave to write hop `j + 1`'s slot. -/
theorem wp_credit (c : Dev nD) (t : Bool) (j : ℕ) (hj : j < 6) (l : List Duty) (hl : ∀ e ∈ l, 2 * j + 3 < dutyLv e)
    {sem : Sem sig} (hs : SemLoc.reg sem = csem (credK t)) {p : PUnit → P F} {Q : PUnit → sProp 𝕄} :
    iprop(ctx m K Ks ∗ cred (tallyAt (kcell (c, credK t)) (2 * j + 3) 1) ∗ owesL c l ∗ credSt c t j)
      ⊢ iprop(((owesL c l ∗ credSt c t (j + 1) ∗ Release.released ES (nb c t, t, j + 1) 1) -∗ wpc c (p ⟨⟩) Q)
          -∗ wpc c (.op (.semWait sem ((1 : ℕ) : ℤ)) p) Q) := by
  unfold owesL credSt
  iintro ⟨#Hc, Hcr, ⟨%W, HO⟩, ⟨%T, %hT, Hat, #HT⟩⟩ Hk
  ihave #H1 := (ctx_cell m K Ks (c, credK t)) $$ Hc
  icases H1 with ⟨#Hi1, #Hr1⟩
  ihave #Hlev := (ctx_lev m K Ks) $$ Hc
  have hw (Kt : PUnit → sProp 𝕄) : wpE (defs₀ (F := F)) 𝒱₀ (c : Thread nD τ) none Set.univ (.semWait sem ((1 : ℕ) : ℤ)) Kt
      = waitSpec (c : Thread nD τ) Set.univ (csem (credK t)) 1 Kt := by
    rw [← hs]; exact wpE_semWait_eq 𝒱₀ (c : Thread nD τ) none Set.univ Kt
  iapply (Rounds.wp_wait 𝒱₀ ER (ringRd m) (c : Thread nD τ) none (κ := K (c, credK t)) hw (Set.mem_univ _) (cr := Finsupp.single (2 * j + 3) 1) {(csem (credK t), 2 * j + 3)}
      (O := owedL c l) (W := W) (R := 0) (m := j) (T := T) (Util.total_single _ _) (image_single_subset _ _ _)) $$ [Hcr HO Hat]
  · isplitr; · iexact Hi1
    isplitl [Hcr]; · iexact Hcr
    isplitl [HO]; · iexact HO
    isplitr; · iapply (mayWait c (csem (credK t)) (2 * j + 3) l (by omega) hl); iexact Hlev
    iexact Hat
  iintro %S ⟨%hS, HO, Hat, Hp⟩
  rw [duties_at, duties_cred, expect_at, duties_cred, amt_cred, Finset.card_range] at hS
  obtain ⟨hTS, hS6, hcard⟩ := hS
  ihave #HSp := (show (bigSep (S \ T) (fun d => (ringRd m).payload (kcell (c, credK t)) 0 d) : sProp 𝕄) ⊢ bigSep (S \ T) (leaves (nb c t) t) from
    bigSep_mono fun d _ => Entails.of_eq ((payload_at m c _ d).trans (pay_cred c t d))) $$ Hp
  iapply Hk
  isplitl [HO]; · iexists _; iexact HO
  have hall : iprop((bigSep (S \ T) (leaves (nb c t) t) : sProp 𝕄) ∗ bigSep T (leaves (nb c t) t)) ⊢ bigSep S (leaves (nb c t) t) :=
    Entails.of_eq ((bigSep_union (Φ := leaves (nb c t) t) Finset.sdiff_disjoint).symm.trans (by rw [Finset.sdiff_union_of_subset hTS]))
  ihave #HS' := hall $$ [HSp HT]
  · isplitr; · iexact HSp
    iexact HT
  isplitl [Hat]
  · iexists S
    isplitr; · ipureintro; exact ⟨hS6, by omega⟩
    isplitl [Hat]; · iexact Hat
    iexact HS'
  obtain ⟨i, hi, hji⟩ := late_credit (j := j) hS6 (by omega)
  iapply (leaves_at (nb c t) t i j hji)
  have he : (bigSep S (leaves (nb c t) t) : sProp 𝕄) ⊢ leaves (nb c t) t i := bigSep_elim hi
  iapply he
  iexact HS'

/-- The last credit, with which the cell is done. -/
theorem wp_credit_last (c : Dev nD) (t : Bool) (l : List Duty) (hl : ∀ e ∈ l, 13 < dutyLv e)
    {sem : Sem sig} (hs : SemLoc.reg sem = csem (credK t)) {p : PUnit → P F} {Q : PUnit → sProp 𝕄} :
    iprop(ctx m K Ks ∗ cred (tallyAt (kcell (c, credK t)) 13 1) ∗ owesL c l ∗ credSt c t 5)
      ⊢ iprop(((owesL c l ∗ semVal (kcell (c, credK t)) 0 ∗ Release.released ES (nb c t, t, 6) 1) -∗ wpc c (p ⟨⟩) Q)
          -∗ wpc c (.op (.semWait sem ((1 : ℕ) : ℤ)) p) Q) := by
  unfold owesL credSt
  iintro ⟨#Hc, Hcr, ⟨%W, HO⟩, ⟨%T, %hT, Hat, #HT⟩⟩ Hk
  ihave #H1 := (ctx_cell m K Ks (c, credK t)) $$ Hc
  icases H1 with ⟨#Hi1, #Hr1⟩
  ihave #Hlev := (ctx_lev m K Ks) $$ Hc
  have hw (Kt : PUnit → sProp 𝕄) : wpE (defs₀ (F := F)) 𝒱₀ (c : Thread nD τ) none Set.univ (.semWait sem ((1 : ℕ) : ℤ)) Kt
      = waitSpec (c : Thread nD τ) Set.univ (csem (credK t)) 1 Kt := by
    rw [← hs]; exact wpE_semWait_eq 𝒱₀ (c : Thread nD τ) none Set.univ Kt
  iapply (Rounds.wp_wait_rest_token 𝒱₀ ER (ringRd m) (c : Thread nD τ) none (κ := K (c, credK t)) hw (Set.mem_univ _) 13 (O := owedL c l) (W := W) (R := 0) (m := 5) (T := T)
      (by rw [expect_at, duties_cred, amt_cred, Finset.card_range])) $$ [Hcr HO Hat]
  · isplitr; · iexact Hi1
    isplitl [Hcr]; · iexact Hcr
    isplitl [HO]; · iexact HO
    isplitr; · iapply (mayWait c (csem (credK t)) 13 l (by omega) hl); iexact Hlev
    iexact Hat
  iintro ⟨HO, Hat, -, Hp⟩
  imod (Rounds.cell_close ER (ringRd m) (Set.mem_univ (K (c, credK t))) (fun h => h) (R := 0 + 1) (duties_later m (kcell (c, credK t)))) $$ [Hat] with Hz
  · isplitr; · iexact Hi1
    iexact Hat
  ihave #HSp := (show (bigSep ((ringRd m).duties (kcell (c, credK t)) 0 \ T) (fun d => (ringRd m).payload (kcell (c, credK t)) 0 d) : sProp 𝕄)
      ⊢ bigSep (Finset.range 6 \ T) (leaves (nb c t) t) from by
    rw [duties_at, duties_cred]
    exact bigSep_mono fun d _ => Entails.of_eq ((payload_at m c _ d).trans (pay_cred c t d))) $$ Hp
  have hall : iprop((bigSep (Finset.range 6 \ T) (leaves (nb c t) t) : sProp 𝕄) ∗ bigSep T (leaves (nb c t) t)) ⊢ bigSep (Finset.range 6) (leaves (nb c t) t) :=
    Entails.of_eq ((bigSep_union (Φ := leaves (nb c t) t) Finset.sdiff_disjoint).symm.trans (by rw [Finset.sdiff_union_of_subset hT.1]))
  ihave #HS' := hall $$ [HSp HT]
  · isplitr; · iexact HSp
    iexact HT
  iapply Hk
  isplitl [HO]; · iexists _; iexact HO
  isplitl [Hz]; · iexact Hz
  iapply (leaves_at (nb c t) t 5 5 (le_refl _))
  have he : (bigSep (Finset.range 6) (leaves (nb c t) t) : sProp 𝕄) ⊢ leaves (nb c t) t 5 := bigSep_elim (Finset.mem_range.mpr (by omega))
  iapply he
  iexact HS'

end Cert.RingProof
end
-- ==== Proof.Compute.lean ====
/-
  The pieces of the body that only touch the device's own memory: the blocks of the product, the chunks of its own rows,
  its maximum, the quantiser.
-/
module

public import proofs.«01_k».proof.Proof.Rules
public import Idealize.ShloMosaic.Lib.Pipeline.Value
public import Idealize.ShloMosaic.Lib.VecWindow

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ)

/-- The weights' columns, the result after `n` blocks from `f`, the running maximum, and the device's rows of `x`. -/
def wPts (c : Dev nD) : sProp 𝕄 := wM.view.loc (c : Thread nD τ) ↦[Finset.univ]{fullShare} ws m c
def oPts (c : Dev nD) (f : (cc0_stg2_0 : Ref sig .tc).ty.Contents (Elt F)) : sProp 𝕄 := oM.view.loc (c : Thread nD τ) ↦[Finset.univ]{fullShare} f
def smPts (c : Dev nD) (u : F .f32) : sProp 𝕄 :=
  smM.view.loc (c : Thread nD τ) ↦[Finset.univ]{fullShare} (fun _ => u : (cc0_scratch8 : Ref sig .tc).ty.Contents (Elt F))
def xPts (c : Dev nD) : sProp 𝕄 := xM.view.loc (c : Thread nD τ) ↦[Finset.univ]{fullShare} xs m c
def tblPts (c : Dev nD) : sProp 𝕄 := tblM.view.loc (c : Thread nD τ) ↦[Finset.univ]{fullShare} tblV m

theorem z2 : (![0, 0] : Fin 2 → Nat) = fun _ => 0 := funext fun a => by fin_cases a <;> rfl
theorem z1 : (![0] : Fin 1 → Nat) = fun _ => 0 := funext fun a => by fin_cases a; rfl

theorem sm_read (u : F .f32) (x : smR.shape.Idx) : (smM.access smR).read (Elt F) (fun _ => u : (cc0_scratch8 : Ref sig .tc).ty.Contents (Elt F)) x = u := rfl
theorem sm_write (f w : (cc0_scratch8 : Ref sig .tc).ty.Contents (Elt F)) : (smM.access smR).write (Elt F) f w Finset.univ = w :=
  Memref.write_access_unit_zero_univ (Elt F) cc0_scratch8 z1 _ f w
theorem w_read (f : (cc0_stg1_0 : Ref sig .tc).ty.Contents (Elt F)) :
    wM.view.readAt (Elt F) (Rect.unit (s := S4096x1024) ![0, 0] S4096x1024.size inb_S4096x1024_S4096x1024_0_0).toLoadRect f = f :=
  Memref.readAt_unit_zero (Elt F) cc0_stg1_0 z2 _ f
theorem tbl_read (f : (cc0_scratch10 : Ref sig .tc).ty.Contents (Elt F)) :
    tblM.view.readAt (Elt F) (Rect.unit (s := S8x128) ![0, 0] S8x128.size inb_S8x128_S8x128_0_0).toLoadRect f = f :=
  Memref.readAt_unit_zero (Elt F) cc0_scratch10 z2 _ f
theorem src_write (f w : (cc0_scratch9 : Ref sig .tc).ty.Contents (Elt F)) :
    (srcM.access (Rect.unit (s := S1x128) ![0, 0] S1x128.size inb_S1x128_S1x128_0_0)).write (Elt F) f w Finset.univ = w :=
  Memref.write_access_unit_zero_univ (Elt F) cc0_scratch9 z2 _ f w

theorem slot_set (a : Memref sig .tc .vmem S2x256x4096 .bf16) (p : Fin 2) : (slotQ a p).view.set = a.view.setOn (slotR p).toLoadRect.set := by
  rw [Memref.set_view_squeeze]
  exact View.set_slice _ _

/-- A slot holding `v` loads as `v`. -/
theorem slot_read (a : Memref sig .tc .vmem S2x256x4096 .bf16) (p : Fin 2) (v : Vec F S256x4096 .bf16) :
    shapeCast S256x4096 (a.view.readAt (Elt F) (slotR p).toLoadRect ((slotQ a p).view.rep v)) shapeCasts_S1x256x4096_S256x4096 = v := by
  rw [← Memref.read_squeeze_slice a (slotR p) (fun _ => rfl) squeezes_S1x256x4096_S256x4096]
  exact View.read_rep _ v

/-! ## A block of the product -/

set_option maxHeartbeats 800000 in
theorem wp_gemm (c : Dev nD) (n : ℕ) (a : Memref sig .tc .vmem S2x256x4096 .bf16) (p : Fin 2) (q : PosShare TreeShare)
    (off : Fin 2 → Nat) (inb : ∀ a, off a + S256x1024.size a ≤ S4096x1024.size a) (hoff : off = ![rowOf c n, 0])
    (f : (cc0_stg2_0 : Ref sig .tc).ty.Contents (Elt F)) {k : P F} {Q : PUnit → sProp 𝕄} :
    iprop(held a c p q (chunkAt m c n) ∗ wPts m c ∗ oPts c (oM.view.writes (Elt F) f (pieces m c n)) ∗ smPts c (amaxAt m c n))
      ⊢ iprop(((held a c p q (chunkAt m c n) ∗ wPts m c ∗ oPts c (oM.view.writes (Elt F) f (pieces m c (n + 1))) ∗ smPts c (amaxAt m c (n + 1))) -∗ wpc c k Q)
          -∗ wpc c (gemmProg wM oM smM a p off inb k) Q) := by
  subst hoff
  unfold held wPts oPts smPts gemmProg
  iintro ⟨Ha, Hw, Ho, Hs⟩ Hk
  iapply (wp_load 𝒱₀ (c : Thread nD τ) none Set.univ (m := a) (S := (slotQ a p).view.set) (by rw [slot_set])) $$ Ha; iintro Ha
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rowR ![rowOf c n, 0] inb) (Mk := Finset.univ) (Finset.subset_univ _)) $$ Ho; iintro Ho
  iapply (wp_smemLoadElt 𝒱₀ (c : Thread nD τ) none Set.univ (m := smM) (r := smR) (Finset.subset_univ _)) $$ Hs; iintro Hs
  iapply (wp_smemLoadElt 𝒱₀ (c : Thread nD τ) none Set.univ (m := smM) (r := smR) (Finset.subset_univ _)) $$ Hs; iintro Hs
  iapply (wp_store 𝒱₀ (c : Thread nD τ) none Set.univ (m := smM) (r := smR) (Mk := Finset.univ) (Finset.subset_univ _)) $$ Hs; iintro Hs
  rw [w_read, pay5_eq, pay6_eq, slot_read, sm_read, sm_write]
  iapply Hk
  isplitl [Ha]; · iexact Ha
  isplitl [Hw]; · iexact Hw
  isplitl [Ho]; · iexact Ho
  iexact Hs

/-! ## The device's own chunks -/

theorem slot_fill (a : Memref sig .tc .vmem S2x256x4096 .bf16) (c : Dev nD) (p : Fin 2) (f : Buf (Elt F) (a.view.loc (c : Thread nD τ))) (w : Vec F S1x256x4096 .bf16) :
    ((slotQ a p).view.loc (c : Thread nD τ) ↦[(slotQ a p).view.set]{fullShare} ((a.access (slotR p)).write (Elt F) f w Finset.univ) : sProp 𝕄)
      ⊢ held a c p fullShare (shapeCast S256x4096 w shapeCasts_S1x256x4096_S256x4096) := by
  unfold held
  refine pointsTo_rep_of_read (c : Thread nD τ) (slotQ a p) _ _ _ ?_
  rw [Memref.read_squeeze_slice a (slotR p) (fun _ => rfl) squeezes_S1x256x4096_S256x4096]
  exact congrArg (fun v => shapeCast S256x4096 v shapeCasts_S1x256x4096_S256x4096) (View.read_write_univ (v := a.access (slotR p)) f w)

/-- Device `c`'s first chunks written into slot 0 of both buffers. -/
def chunksProg (k : P F) : P F :=
  smemLoadElt smM smR (View.loads_smem_one rfl numel1_S1) (Shape.Idx.first (numel1_S1.symm ▸ Nat.one_pos)) fun _ =>
  .op (.store smM smR (fun _ => Scalar.ofBits .f32 0x00000000#32) Finset.univ (View.stores_smem_one rfl numel1_S1) (.inl rfl)) fun _ =>
  .op (.load xM (Rect.unit (s := S512x4096) ![0, 0] S256x4096.size inb_S512x4096_S256x4096_0_0).toLoadRect (View.loadsAt_vmem h_S256x4096)) fun x =>
  .op (.load cwM (slotR 0).toLoadRect (View.loadsAt_vmem h_S1x256x4096)) fun _ =>
  .op (.store cwM (slotR 0) (k0_pay3 x) Finset.univ (View.stores_vmem h_S1x256x4096 ((Memref.isWhole_whole cc0_scratch0).storeExact_slice rfl _ packedbf16_S2x256x4096_S1x256x4096_0_0_0) (fun _ => rfl)) (.inl rfl)) fun _ =>
  .op (.load xM (Rect.unit (s := S512x4096) ![256, 0] S256x4096.size inb_S512x4096_S256x4096_256_0).toLoadRect (View.loadsAt_vmem h_S256x4096)) fun x =>
  .op (.load ccwM (slotR 0).toLoadRect (View.loadsAt_vmem h_S1x256x4096)) fun _ =>
  .op (.store ccwM (slotR 0) (k0_pay4 x) Finset.univ (View.stores_vmem h_S1x256x4096 ((Memref.isWhole_whole cc0_scratch1).storeExact_slice rfl _ packedbf16_S2x256x4096_S1x256x4096_0_0_0) (fun _ => rfl)) (.inl rfl)) fun _ => k

set_option maxHeartbeats 800000 in
theorem wp_chunks (c : Dev nD) (f8 : (cc0_scratch8 : Ref sig .tc).ty.Contents (Elt F)) {k : P F} {Q : PUnit → sProp 𝕄} :
    iprop(xPts m c ∗ free cwM c 0 ∗ free ccwM c 0 ∗ (smM.view.loc (c : Thread nD τ) ↦[Finset.univ]{fullShare} f8))
      ⊢ iprop(((xPts m c ∗ held cwM c 0 fullShare (top m c) ∗ held ccwM c 0 fullShare (bot m c) ∗ smPts c (amaxAt m c 0)) -∗ wpc c k Q)
          -∗ wpc c (chunksProg k) Q) := by
  unfold xPts free Release.slot chunksProg
  iintro ⟨Hx, ⟨%fa, Ha⟩, ⟨%fb, Hb⟩, Hs⟩ Hk
  iapply (wp_smemLoadElt 𝒱₀ (c : Thread nD τ) none Set.univ (m := smM) (r := smR) (Finset.subset_univ _)) $$ Hs; iintro Hs
  iapply (wp_store 𝒱₀ (c : Thread nD τ) none Set.univ (m := smM) (r := smR) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := cwM) (S := (slotQ cwM 0).view.set) (by rw [slot_set])) $$ Ha; iintro Ha
  iapply (wp_store 𝒱₀ (c : Thread nD τ) none Set.univ (m := cwM) (r := slotR 0) (Mk := Finset.univ) (S := (slotQ cwM 0).view.set)
    (by rw [slot_set]; exact (View.set_slice _ _).le)) $$ Ha; iintro Ha
  iapply (wp_load 𝒱₀ (c : Thread nD τ) none Set.univ (m := xM) (Finset.subset_univ _)) $$ Hx; iintro Hx
  iapply (wp_load 𝒱₀ (c : Thread nD τ) none Set.univ (m := ccwM) (S := (slotQ ccwM 0).view.set) (by rw [slot_set])) $$ Hb; iintro Hb
  iapply (wp_store 𝒱₀ (c : Thread nD τ) none Set.univ (m := ccwM) (r := slotR 0) (Mk := Finset.univ) (S := (slotQ ccwM 0).view.set)
    (by rw [slot_set]; exact (View.set_slice _ _).le)) $$ Hb; iintro Hb
  ihave Ha' := (slot_fill cwM c 0 _ _) $$ Ha
  ihave Hb' := (slot_fill ccwM c 0 _ _) $$ Hb
  rw [sm_write]
  iapply Hk
  isplitl [Hx]; · iexact Hx
  isplitl [Ha']; · unfold top; iexact Ha'
  isplitl [Hb']; · unfold bot; iexact Hb'
  unfold smPts
  iexact Hs

/-! ## The device's maximum -/

theorem src_set : srcM.view.set = Finset.univ := View.set_whole _
theorem row_set (d : Dev nD) : (rowM d).view.set = tblM.view.setOn (maxR ![d.val, 0] (row_inb d)).toLoadRect.set := View.set_slice _ _

set_option maxHeartbeats 800000 in
theorem wp_ownMax (c : Dev nD) (off : Fin 2 → Nat) (inb : ∀ a, off a + S1x128.size a ≤ S8x128.size a) (hoff : off = ![c.val, 0])
    (f9 : (cc0_scratch9 : Ref sig .tc).ty.Contents (Elt F)) {k : P F} {Q : PUnit → sProp 𝕄} :
    iprop(smPts c (amaxAt m c 16) ∗ (srcM.view.loc (c : Thread nD τ) ↦[Finset.univ]{fullShare} f9) ∗ rowFree c c)
      ⊢ iprop(((smPts c (amaxAt m c 16) ∗ srcPts m c fullShare ∗ rowPts m c c) -∗ wpc c k Q)
          -∗ wpc c (ownMaxProg smM srcM tblM off inb k) Q) := by
  subst hoff
  unfold smPts rowFree Release.slot ownMaxProg
  iintro ⟨Hs, Hsrc, ⟨%ft, Ht⟩⟩ Hk
  iapply (wp_smemLoadElt 𝒱₀ (c : Thread nD τ) none Set.univ (m := smM) (r := smR) (Finset.subset_univ _)) $$ Hs; iintro Hs
  iapply (wp_load 𝒱₀ (c : Thread nD τ) none Set.univ (m := srcM) (Finset.subset_univ _)) $$ Hsrc; iintro Hsrc
  iapply (wp_store 𝒱₀ (c : Thread nD τ) none Set.univ (m := srcM) (r := Rect.unit (s := S1x128) ![0, 0] S1x128.size inb_S1x128_S1x128_0_0) (Mk := Finset.univ) (Finset.subset_univ _)) $$ Hsrc; iintro Hsrc
  iapply (wp_load 𝒱₀ (c : Thread nD τ) none Set.univ (m := tblM) (S := (rowM c).view.set) (by rw [row_set])) $$ Ht; iintro Ht
  iapply (wp_store 𝒱₀ (c : Thread nD τ) none Set.univ (m := tblM) (r := maxR ![c.val, 0] inb) (Mk := Finset.univ) (S := (rowM c).view.set)
    (Finset.Subset.refl _)) $$ Ht; iintro Ht
  rw [sm_read, src_write, pay43_eq, pay44_eq]
  have hrow (g : Buf (Elt F) (tblM.view.loc (c : Thread nD τ))) : ((rowM c).view.loc (c : Thread nD τ) ↦[(rowM c).view.set]{fullShare} ((tblM.access (maxR ![c.val, 0] inb)).write (Elt F) g (maxRow m c) Finset.univ) : sProp 𝕄)
      ⊢ rowPts m c c := by
    unfold rowPts
    exact pointsTo_rep_of_read (c : Thread nD τ) (rowM c) _ _ _ (View.read_write_univ (v := (rowM c).view) g (maxRow m c))
  have hsrc : (srcM.view.loc (c : Thread nD τ) ↦[Finset.univ]{fullShare} (maxRow m c : (cc0_scratch9 : Ref sig .tc).ty.Contents (Elt F)) : sProp 𝕄) ⊢ srcPts m c fullShare := by
    unfold srcPts
    rw [← src_set]
    exact pointsTo_rep_of_read (c : Thread nD τ) srcM _ _ _ rfl
  iapply Hk
  isplitl [Hs]; · iexact Hs
  isplitl [Hsrc]; · iapply hsrc; iexact Hsrc
  iapply hrow; iexact Ht

/-! ## The quantiser -/

theorem wp_done (c : Dev nD) {Q : PUnit → sProp 𝕄} : Q ⟨⟩ ⊢ wpc c (.ret ⟨⟩ : P F) Q := by
  unfold wpc
  rw [wp_ret]
  exact fupd_intro

theorem wp_quant (c : Dev nD) (b : Fin 8) (u : Vec F S8x128 .f32) (f : (cc0_stg2_0 : Ref sig .tc).ty.Contents (Elt F)) (n : ℕ) (hn : n = b.val) {k : P F} {Q : PUnit → sProp 𝕄} :
    oPts c (quantW u f n) ⊢ iprop((oPts c (quantW u f (n + 1)) -∗ wpc c k Q) -∗ wpc c (quantProg oM b u k) Q) := by
  subst hn
  unfold oPts quantProg
  iintro Ho Hk
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := quantR b) (Mk := Finset.univ) (Finset.subset_univ _)) $$ Ho; iintro Ho
  iapply Hk
  have e : quantW u f (b.val + 1) = (oM.access (quantR b)).write (Elt F) (quantW u f b.val) (k0_pay47 u (oM.view.readAt (Elt F) (quantR b).toLoadRect (quantW u f b.val))) Finset.univ :=
    dif_pos b.isLt
  rw [e]
  iexact Ho

theorem wp_quants (c : Dev nD) (f : (cc0_stg2_0 : Ref sig .tc).ty.Contents (Elt F)) {Q : PUnit → sProp 𝕄} :
    iprop(tblPts m c ∗ oPts c f) ⊢ iprop(((tblPts m c ∗ oPts c (quantW (tblV m) f 8)) -∗ Q ⟨⟩) -∗ wpc c (quantsProg oM tblM) Q) := by
  rw [show oPts c f = oPts c (quantW (tblV m) f 0) from rfl]
  unfold tblPts quantsProg
  iintro ⟨Ht, Ho⟩ Hk
  iapply (wp_load 𝒱₀ (c : Thread nD τ) none Set.univ (m := tblM) (Finset.subset_univ _)) $$ Ht; iintro Ht
  rw [tbl_read]
  iapply (wp_quant c 0 (tblV m) f 0 rfl) $$ Ho; iintro Ho
  iapply (wp_quant c 1 (tblV m) f 1 rfl) $$ Ho; iintro Ho
  iapply (wp_quant c 2 (tblV m) f 2 rfl) $$ Ho; iintro Ho
  iapply (wp_quant c 3 (tblV m) f 3 rfl) $$ Ho; iintro Ho
  iapply (wp_quant c 4 (tblV m) f 4 rfl) $$ Ho; iintro Ho
  iapply (wp_quant c 5 (tblV m) f 5 rfl) $$ Ho; iintro Ho
  iapply (wp_quant c 6 (tblV m) f 6 rfl) $$ Ho; iintro Ho
  iapply (wp_quant c 7 (tblV m) f 7 rfl) $$ Ho; iintro Ho
  iapply (wp_done c)
  iapply Hk
  isplitl [Ht]; · iexact Ht
  iexact Ho

end Cert.RingProof
end
-- ==== Proof.Hops.lean ====
/-
  A hop of the two half rings: its transfers, its two blocks of the product, its waits, the credits it takes and gives.
-/
module

public import proofs.«01_k».proof.Proof.Compute

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable {m : (ℓ : Loc nD τ sig) → Buf (Elt F) ℓ} {K : Dev nD × Cell → ℕ} {Ks : Key → ℕ}

/-! ## Slots -/

theorem par_two (n : ℕ) : par (n + 2) = par n := Fin.ext (by show (n + 2) % 2 = n % 2; omega)

theorem held_halves (a : Memref sig .tc .vmem S2x256x4096 .bf16) (c : Dev nD) (p : Fin 2) (v : Vec F S256x4096 .bf16) :
    (held a c p fullShare v : sProp 𝕄) ⊣⊢ iprop(held a c p fullShare.left v ∗ held a c p fullShare.right v) := by
  unfold held
  exact pointsTo_share (PosShare.mem_left_op_right fullShare)

theorem held_free (a : Memref sig .tc .vmem S2x256x4096 .bf16) (c : Dev nD) (p : Fin 2) (v : Vec F S256x4096 .bf16) :
    held a c p fullShare v ⊢ free a c p := by
  unfold held free Release.slot
  iintro H
  iexists _
  iexact H

theorem slot_landed (a : Memref sig .tc .vmem S2x256x4096 .bf16) (c c' : Dev nD) (s r : Fin 2) (v : Vec F S256x4096 .bf16)
    (fd : Buf (Elt F) ((slotQ a r).view.loc (c' : Thread nD τ))) :
    ((slotQ a r).view.loc (c' : Thread nD τ) ↦[(slotQ a r).view.set]{fullShare}
        ((slotQ a r).view.write (Elt F) fd ((slotQ a s).view.read (Elt F) ((slotQ a s).view.rep v)) Finset.univ) : sProp 𝕄)
      ⊢ held a c' r fullShare v := by
  unfold held
  refine pointsTo_rep_of_read (c' : Thread nD τ) (slotQ a r) _ _ _ ?_
  rw [View.read_write_univ]
  exact View.read_rep _ v

theorem free_free (a : Memref sig .tc .vmem S2x256x4096 .bf16) (c : Dev nD) (p : Fin 2) : iprop(free (F := F) a c p ∗ free a c p) ⊢ (False : sProp 𝕄) := by
  unfold free
  exact Release.slot_slot_false ⟨_, View.emb_mem_set _ (Shape.Idx.first h_S256x4096)⟩

theorem slotOf_slotOf (k : Key) : iprop(slotOf (F := F) k ∗ slotOf k) ⊢ (False : sProp 𝕄) := by
  unfold slotOf; exact free_free _ _ _

/-! ## The transfers of a hop -/

set_option maxHeartbeats 1000000 in
theorem wp_sends (c : Dev nD) (h : Fin 7) (s r : Fin 2) (dR dL : Dev nD) (hs : s = par h.val) (hr : r = par (h.val + 1)) (hR : dR = rgt c) (hL : dL = lft c)
    (l : List Duty) {k : P F} {Q : PUnit → sProp 𝕄} :
    iprop(ctx m K Ks ∗ held cwM c s fullShare (top m (lftN h.val c)) ∗ held ccwM c s fullShare (bot m (rgtN h.val c))
        ∗ free cwM (rgt c) r ∗ free ccwM (lft c) r ∗ fwd c (h.val + 1) ∗ owesL c (.xfer h 1 :: .xfer h 3 :: l)
        ∗ tok c (.xfer h 0) ∗ tok c (.xfer h 1) ∗ tok c (.xfer h 2) ∗ tok c (.xfer h 3))
      ⊢ iprop(((held cwM c s fullShare.right (top m (lftN h.val c)) ∗ held ccwM c s fullShare.right (bot m (rgtN h.val c))
            ∗ rowFree (rgtN (h.val + 1) c) c ∗ cred (tallyAt (kcell (c, .inl (h, 0))) 0 Ncw) ∗ cred (tallyAt (kcell (c, .inl (h, 2))) 0 Nccw) ∗ owesL c l)
            -∗ wpc c k Q)
          -∗ wpc c (sendsProg cwM ccwM (Memref.isWhole_whole _) (Memref.isWhole_whole _) cc0_scratch2 cc0_scratch3 cc0_scratch4 cc0_scratch5 h s r dR dL k) Q) := by
  subst hs hr hR hL
  rw [fwd_step]
  unfold sendsProg
  iintro ⟨#Hc, Ha, Hb, Hfa, Hfb, ⟨Hrow, Hfw⟩, HO, Ht0, Ht1, Ht2, Ht3⟩ Hk
  ihave Ha2 := (held_halves cwM c _ _).1 $$ Ha
  icases Ha2 with ⟨HaL, HaR⟩
  ihave Hb2 := (held_halves ccwM c _ _).1 $$ Hb
  icases Hb2 with ⟨HbL, HbR⟩
  unfold free Release.slot
  icases Hfa with ⟨%fa, Hfa⟩
  icases Hfb with ⟨%fb, Hfb⟩
  have hp1 : ((slotQ cwM (par h.val)).view.loc (c : Thread nD τ) ↦[(slotQ cwM (par h.val)).view.set]{fullShare.left} (slotQ cwM (par h.val)).view.rep (top m (lftN h.val c)) : sProp 𝕄)
      ⊢ pay m c (.inl (h, 0)) 0 := Entails.of_eq rfl
  have hp2 (fd : (slotQ cwM (par (h.val + 1))).view.ty.Contents (Elt F)) :
      (iprop(((slotQ cwM (par (h.val + 1))).view.loc (rgt c : Thread nD τ) ↦[(slotQ cwM (par (h.val + 1))).view.set]{fullShare}
        ((slotQ cwM (par (h.val + 1))).view.write (Elt F) fd ((slotQ cwM (par h.val)).view.read (Elt F) ((slotQ cwM (par h.val)).view.rep (top m (lftN h.val c)))) Finset.univ)) ∗ emp) : sProp 𝕄)
      ⊢ pay m (rgt c) (.inl (h, 1)) 0 := by
    show _ ⊢ held cwM (rgt c) (par (h.val + 1)) fullShare (top m (lftN (h.val + 1) (rgt c)))
    rw [lftN_rgt]
    iintro ⟨H, -⟩
    iapply (slot_landed cwM c (rgt c) (par h.val) (par (h.val + 1)))
    iexact H
  have hp3 : ((slotQ ccwM (par h.val)).view.loc (c : Thread nD τ) ↦[(slotQ ccwM (par h.val)).view.set]{fullShare.left} (slotQ ccwM (par h.val)).view.rep (bot m (rgtN h.val c)) : sProp 𝕄)
      ⊢ pay m c (.inl (h, 2)) 0 := Entails.of_eq rfl
  have hp4 (fd : (slotQ ccwM (par (h.val + 1))).view.ty.Contents (Elt F)) :
      (iprop(((slotQ ccwM (par (h.val + 1))).view.loc (lft c : Thread nD τ) ↦[(slotQ ccwM (par (h.val + 1))).view.set]{fullShare}
        ((slotQ ccwM (par (h.val + 1))).view.write (Elt F) fd ((slotQ ccwM (par h.val)).view.read (Elt F) ((slotQ ccwM (par h.val)).view.rep (bot m (rgtN h.val c)))) Finset.univ)) ∗ fwd (lft c) (h.val + 2)) : sProp 𝕄)
      ⊢ pay m (lft c) (.inl (h, 3)) 0 := by
    show _ ⊢ iprop(held ccwM (lft c) (par (h.val + 1)) fullShare (bot m (rgtN (h.val + 1) (lft c))) ∗ fwd (lft c) (h.val + 2))
    rw [rgtN_lft]
    iintro ⟨H, Hf⟩
    isplitl [H]
    · iapply (slot_landed ccwM c (lft c) (par h.val) (par (h.val + 1)))
      iexact H
    iexact Hf
  unfold held
  iapply (wp_xfer (m := m) (K := K) (Ks := Ks) c (rgt c) h 0 1 rfl rfl (sem_cwS h) (sem_cwR h) Ncw (cw_credit _) rfl rfl
    (q := fullShare.left) (fd := fa) (Fr := iprop(emp)) hp1 (hp2 fa) (l := .xfer h 3 :: l)) $$ [HaL Hfa HO Ht0 Ht1]
  · isplitr; · iexact Hc
    isplitl [HaL]; · iexact HaL
    isplitl [Hfa]
    · isplitl [Hfa]; · iexact Hfa
      iempintro
    isplitl [HO]; · iexact HO
    isplitl [Ht0] <;> iassumption
  iintro ⟨Hc0, HO⟩
  iapply (wp_xfer (m := m) (K := K) (Ks := Ks) c (lft c) h 2 3 rfl rfl (sem_ccwS h) (sem_ccwR h) Nccw (ccw_credit _) rfl rfl
    (q := fullShare.left) (fd := fb) (Fr := fwd (lft c) (h.val + 2)) hp3 (hp4 fb) (l := l)) $$ [HbL Hfb Hfw HO Ht2 Ht3]
  · isplitr; · iexact Hc
    isplitl [HbL]; · iexact HbL
    isplitl [Hfb Hfw]
    · isplitl [Hfb] <;> iassumption
    isplitl [HO]; · iexact HO
    isplitl [Ht2] <;> iassumption
  iintro ⟨Hc2, HO⟩
  iapply Hk
  isplitl [HaR]; · iexact HaR
  isplitl [HbR]; · iexact HbR
  isplitl [Hrow]; · iexact Hrow
  isplitl [Hc0]; · iexact Hc0
  isplitl [Hc2] <;> iassumption

/-! ## The waits of a hop -/

theorem wp_sent (c : Dev nD) (h : Fin 7) (s r : Fin 2) (l : List Duty) (hl : ∀ e ∈ l, 0 < dutyLv e) {k : P F} {Q : PUnit → sProp 𝕄} :
    iprop(ctx m K Ks ∗ cred (tallyAt (kcell (c, .inl (h, 0))) 0 Ncw) ∗ cred (tallyAt (kcell (c, .inl (h, 2))) 0 Nccw) ∗ owesL c l
        ∗ atPos ER (kcell (c, .inl (h, 0))) 0 ∅ 0 ∗ atPos ER (kcell (c, .inl (h, 2))) 0 ∅ 0)
      ⊢ iprop(((held cwM c (par h.val) fullShare.left (top m (lftN h.val c)) ∗ held ccwM c (par h.val) fullShare.left (bot m (rgtN h.val c)) ∗ owesL c l
            ∗ semVal (kcell (c, .inl (h, 0))) 0 ∗ semVal (kcell (c, .inl (h, 2))) 0) -∗ wpc c k Q)
          -∗ wpc c (sentProg cwM ccwM (Memref.isWhole_whole _) (Memref.isWhole_whole _) cc0_scratch2 cc0_scratch4 h s r k) Q) := by
  unfold sentProg
  iintro ⟨#Hc, Hc0, Hc2, HO, Ha0, Ha2⟩ Hk
  iapply (wp_take (m := m) (K := K) (Ks := Ks) c (.inl (h, 0)) Ncw 0 l (by show 1 * Ncw = Ncw; omega) (by omega) hl (sem_cwS h)
    (fun Kt => (wpE_waitDma2_eq 𝒱₀ (c : Thread nD τ) none Set.univ Kt).trans (by rw [cw_credit]))) $$ [Hc0 HO Ha0]
  · isplitr; · iexact Hc
    isplitl [Hc0]; · iexact Hc0
    isplitl [HO] <;> iassumption
  iintro ⟨HO, Hz0, Hp0⟩
  iapply (wp_take (m := m) (K := K) (Ks := Ks) c (.inl (h, 2)) Nccw 0 l (by show 1 * Nccw = Nccw; omega) (by omega) hl (sem_ccwS h)
    (fun Kt => (wpE_waitDma2_eq 𝒱₀ (c : Thread nD τ) none Set.univ Kt).trans (by rw [ccw_credit]))) $$ [Hc2 HO Ha2]
  · isplitr; · iexact Hc
    isplitl [Hc2]; · iexact Hc2
    isplitl [HO] <;> iassumption
  iintro ⟨HO, Hz2, Hp2⟩
  have e0 : (bigSep (dutiesOf (.inl (h, 0))) (pay m c (.inl (h, 0))) : sProp 𝕄) ⊢ held cwM c (par h.val) fullShare.left (top m (lftN h.val c)) :=
    Entails.of_eq (by rw [show dutiesOf (.inl (h, 0)) = {0} from rfl, bigSep_singleton]; rfl)
  have e2 : (bigSep (dutiesOf (.inl (h, 2))) (pay m c (.inl (h, 2))) : sProp 𝕄) ⊢ held ccwM c (par h.val) fullShare.left (bot m (rgtN h.val c)) :=
    Entails.of_eq (by rw [show dutiesOf (.inl (h, 2)) = {0} from rfl, bigSep_singleton]; rfl)
  iapply Hk
  isplitl [Hp0]; · iapply e0; iexact Hp0
  isplitl [Hp2]; · iapply e2; iexact Hp2
  isplitl [HO]; · iexact HO
  isplitl [Hz0] <;> iassumption

theorem wp_landed (c : Dev nD) (h : Fin 7) (s r : Fin 2) (l : List Duty) (hl : ∀ e ∈ l, 2 * h.val + 2 < dutyLv e) {k : P F} {Q : PUnit → sProp 𝕄} :
    iprop(ctx m K Ks ∗ cred (tallyAt (kcell (c, .inl (h, 1))) (2 * h.val + 2) Ncw) ∗ cred (tallyAt (kcell (c, .inl (h, 3))) (2 * h.val + 2) Nccw) ∗ owesL c l
        ∗ atPos ER (kcell (c, .inl (h, 1))) 0 ∅ 0 ∗ atPos ER (kcell (c, .inl (h, 3))) 0 ∅ 0)
      ⊢ iprop(((held cwM c (par (h.val + 1)) fullShare (top m (lftN (h.val + 1) c)) ∗ held ccwM c (par (h.val + 1)) fullShare (bot m (rgtN (h.val + 1) c))
            ∗ fwd c (h.val + 2) ∗ owesL c l ∗ semVal (kcell (c, .inl (h, 1))) 0 ∗ semVal (kcell (c, .inl (h, 3))) 0) -∗ wpc c k Q)
          -∗ wpc c (landedProg cwM ccwM (Memref.isWhole_whole _) (Memref.isWhole_whole _) cc0_scratch3 cc0_scratch5 h s r k) Q) := by
  have hh := h.isLt
  unfold landedProg
  iintro ⟨#Hc, Hc0, Hc2, HO, Ha0, Ha2⟩ Hk
  iapply (wp_take (m := m) (K := K) (Ks := Ks) c (.inl (h, 1)) Ncw (2 * h.val + 2) l (by show 1 * Ncw = Ncw; omega) (by omega) hl (sem_cwR h)
    (fun Kt => (wpE_waitDma2_eq 𝒱₀ (c : Thread nD τ) none Set.univ Kt).trans (by rw [cw_credit]))) $$ [Hc0 HO Ha0]
  · isplitr; · iexact Hc
    isplitl [Hc0]; · iexact Hc0
    isplitl [HO] <;> iassumption
  iintro ⟨HO, Hz0, Hp0⟩
  iapply (wp_take (m := m) (K := K) (Ks := Ks) c (.inl (h, 3)) Nccw (2 * h.val + 2) l (by show 1 * Nccw = Nccw; omega) (by omega) hl (sem_ccwR h)
    (fun Kt => (wpE_waitDma2_eq 𝒱₀ (c : Thread nD τ) none Set.univ Kt).trans (by rw [ccw_credit]))) $$ [Hc2 HO Ha2]
  · isplitr; · iexact Hc
    isplitl [Hc2]; · iexact Hc2
    isplitl [HO] <;> iassumption
  iintro ⟨HO, Hz2, Hp2⟩
  have e0 : (bigSep (dutiesOf (.inl (h, 1))) (pay m c (.inl (h, 1))) : sProp 𝕄) ⊢ held cwM c (par (h.val + 1)) fullShare (top m (lftN (h.val + 1) c)) :=
    Entails.of_eq (by rw [show dutiesOf (.inl (h, 1)) = {0} from rfl, bigSep_singleton]; rfl)
  have e2 : (bigSep (dutiesOf (.inl (h, 3))) (pay m c (.inl (h, 3))) : sProp 𝕄)
      ⊢ iprop(held ccwM c (par (h.val + 1)) fullShare (bot m (rgtN (h.val + 1) c)) ∗ fwd c (h.val + 2)) :=
    Entails.of_eq (by rw [show dutiesOf (.inl (h, 3)) = {0} from rfl, bigSep_singleton]; rfl)
  ihave Hp2' := e2 $$ Hp2
  icases Hp2' with ⟨Hb, Hf⟩
  iapply Hk
  isplitl [Hp0]; · iapply e0; iexact Hp0
  isplitl [Hb]; · iexact Hb
  isplitl [Hf]; · iexact Hf
  isplitl [HO]; · iexact HO
  isplitl [Hz0] <;> iassumption

/-! ## The credits -/

/-- Device `c`'s slots of hops `1 … n` have been let go. -/
def up (c : Dev nD) (t : Bool) (n : ℕ) : sProp 𝕄 := bigSep (Finset.range n) fun i => Release.released ES (c, t, i + 1) 1
instance up_persistent (c : Dev nD) (t : Bool) (n : ℕ) : BI.Persistent (up (F := F) c t n) := by unfold up; infer_instance

theorem up_succ (c : Dev nD) (t : Bool) (n : ℕ) : iprop(Release.released ES (c, t, n + 1) 1 ∗ up (F := F) c t n) ⊢ up c t (n + 1) := by
  unfold up
  refine Entails.of_eq ?_
  rw [Finset.range_add_one, bigSep_insert Finset.notMem_range_self]; rfl

theorem leaves_up (c : Dev nD) (t : Bool) (n : ℕ) : leaves (F := F) c t n = up c t (n + 1) := rfl

theorem key_mem (d : Dev nD) (t : Bool) (n : ℕ) (h : n < 6) : ((d, t, n + 1) : Key) ∈ keys :=
  Finset.mem_product.mpr ⟨Finset.mem_univ _, Finset.mem_product.mpr ⟨Finset.mem_univ _, Finset.mem_Icc.mpr ⟨Nat.succ_pos n, show n + 1 ≤ 6 by omega⟩⟩⟩

/-- Letting a slot go. -/
theorem let_go (c : Dev nD) (t : Bool) (n : ℕ) (hn : n < 6) :
    iprop(ctx m K Ks ∗ free (if t then cwM else ccwM) c (par n) ∗ Release.readerAt ES (c, t, n + 1) 0)
      ⊢ (|={Set.univ}=> Release.released ES (c, t, n + 1) 1 : sProp 𝕄) := by
  iintro ⟨#Hc, Hf, Hr⟩
  ihave #Hi := (ctx_slot m K Ks (c, t, n + 1) (key_mem c t n hn)) $$ Hc
  imod (Release.slot_release ES (ι := Ks (c, t, n + 1)) (k := (c, t, n + 1)) (S := slotOf (c, t, n + 1)) (Es := Set.univ) (Set.mem_univ _) (slotOf_slotOf _) 0) $$ [Hf Hr] with ⟨-, H⟩
  · isplitr; · iexact Hi
    isplitl [Hr]; · iexact Hr
    unfold slotOf
    rw [show par ((c, t, n + 1) : Key).2.2.succ = par n from par_two n]
    iexact Hf
  imodintro
  iexact H

/-- Taking a slot that has been let go. -/
theorem take_slot (d : Dev nD) (t : Bool) (n : ℕ) (hn : n < 6) :
    iprop(ctx m K Ks ∗ Release.released ES (d, t, n + 1) 1 ∗ Release.writeTok ES (d, t, n + 1) 1)
      ⊢ (|={Set.univ}=> free (if t then cwM else ccwM) d (par (n + 2)) : sProp 𝕄) := by
  iintro ⟨#Hc, Hr, Hw⟩
  ihave #Hi := (ctx_slot m K Ks (d, t, n + 1) (key_mem d t n hn)) $$ Hc
  iapply (Release.slot_take ES (ι := Ks (d, t, n + 1)) (k := (d, t, n + 1)) (S := slotOf (d, t, n + 1)) (Es := Set.univ) (Set.mem_univ _) 1)
  isplitr; · iexact Hi
  isplitl [Hr] <;> iassumption

/-- What a hop gives its credits with. -/
def relRes (c : Dev nD) (h : Fin 6) : sProp 𝕄 :=
  iprop(Release.readerAt ES (c, true, h.val + 1) 0 ∗ Release.readerAt ES (c, false, h.val + 1) 0 ∗ tok c (.credit h 0) ∗ tok c (.credit h 1))
/-- What a hop takes its credits with. -/
def takeRes (c : Dev nD) (j : Fin 6) : sProp 𝕄 :=
  iprop(Release.writeTok ES (rgt c, true, j.val + 1) 1 ∗ Release.writeTok ES (lft c, false, j.val + 1) 1
    ∗ cred (tallyAt (kcell (c, credK true)) (2 * j.val + 3) 1) ∗ cred (tallyAt (kcell (c, credK false)) (2 * j.val + 3) 1))

theorem wp_signals (c : Dev nD) (h : Fin 6) (dL dR : Dev nD) (hL : dL = lft c) (hR : dR = rgt c) (v w : Vec F S256x4096 .bf16) (l : List Duty) {k : P F} {Q : PUnit → sProp 𝕄} :
    iprop(ctx m K Ks ∗ held cwM c (par h.val) fullShare v ∗ held ccwM c (par h.val) fullShare w ∗ relRes c h ∗ up c true h.val ∗ up c false h.val
        ∗ owesL c (.credit h 0 :: .credit h 1 :: l))
      ⊢ iprop(((owesL c l ∗ up c true (h.val + 1) ∗ up c false (h.val + 1)) -∗ wpc c k Q)
          -∗ wpc c (signalsProg cc0_scratch6 cc0_scratch7 dL dR k) Q) := by
  subst hL hR
  unfold relRes signalsProg
  iintro ⟨#Hc, Ha, Hb, ⟨Hr1, Hr2, Ht1, Ht2⟩, #Hu1, #Hu2, HO⟩ Hk
  imod (let_go (m := m) (K := K) (Ks := Ks) c true h.val h.isLt) $$ [Ha Hr1] with #Hd1
  · isplitr; · iexact Hc
    isplitl [Ha]; · iapply (held_free cwM c); iexact Ha
    iexact Hr1
  imod (let_go (m := m) (K := K) (Ks := Ks) c false h.val h.isLt) $$ [Hb Hr2] with #Hd2
  · isplitr; · iexact Hc
    isplitl [Hb]; · iapply (held_free ccwM c); iexact Hb
    iexact Hr2
  ihave #Hl1 := (up_succ c true h.val) $$ [Hd1 Hu1]
  · isplitr; · iexact Hd1
    iexact Hu1
  ihave #Hl2 := (up_succ c false h.val) $$ [Hd2 Hu2]
  · isplitr; · iexact Hd2
    iexact Hu2
  iapply (wp_sig (m := m) (K := K) (Ks := Ks) c (lft c) (.credit h 0) rfl rfl sem_credR (l := .credit h 1 :: l)) $$ [HO Ht1]
  · isplitr; · iexact Hc
    isplitl [HO]; · iexact HO
    isplitl [Ht1]; · iexact Ht1
    rw [show pay m (lft c) (dutyCell (.credit h 0)) (dutyNum (.credit h 0)) = leaves (rgt (lft c)) true h.val from rfl, rgt_lft, leaves_up]
    iexact Hl1
  iintro HO
  iapply (wp_sig (m := m) (K := K) (Ks := Ks) c (rgt c) (.credit h 1) rfl rfl sem_credL (l := l)) $$ [HO Ht2]
  · isplitr; · iexact Hc
    isplitl [HO]; · iexact HO
    isplitl [Ht2]; · iexact Ht2
    rw [show pay m (rgt c) (dutyCell (.credit h 1)) (dutyNum (.credit h 1)) = leaves (lft (rgt c)) false h.val from rfl, lft_rgt, leaves_up]
    iexact Hl2
  iintro HO
  iapply Hk
  isplitl [HO]; · iexact HO
  isplitr; · iexact Hl1
  iexact Hl2

theorem wp_credits (c : Dev nD) (j : Fin 6) (l : List Duty) (hl : ∀ e ∈ l, 2 * j.val + 3 < dutyLv e) {k : P F} {Q : PUnit → sProp 𝕄} :
    iprop(ctx m K Ks ∗ credSt c true j.val ∗ credSt c false j.val ∗ takeRes c j ∗ owesL c l)
      ⊢ iprop(((owesL c l ∗ credSt c true (j.val + 1) ∗ credSt c false (j.val + 1) ∗ free cwM (rgt c) (par (j.val + 2)) ∗ free ccwM (lft c) (par (j.val + 2))) -∗ wpc c k Q)
          -∗ wpc c (creditsProg cc0_scratch6 cc0_scratch7 k) Q) := by
  unfold takeRes creditsProg
  iintro ⟨#Hc, Hs1, Hs2, ⟨Hw1, Hw2, Hc1, Hc2⟩, HO⟩ Hk
  iapply (wp_credit (m := m) (K := K) (Ks := Ks) c true j.val j.isLt l hl sem_credR) $$ [Hs1 Hc1 HO]
  · isplitr; · iexact Hc
    isplitl [Hc1]; · iexact Hc1
    isplitl [HO] <;> iassumption
  iintro ⟨HO, Hs1, #Hd1⟩
  iapply (wp_credit (m := m) (K := K) (Ks := Ks) c false j.val j.isLt l hl sem_credL) $$ [Hs2 Hc2 HO]
  · isplitr; · iexact Hc
    isplitl [Hc2]; · iexact Hc2
    isplitl [HO] <;> iassumption
  iintro ⟨HO, Hs2, #Hd2⟩
  imod (take_slot (m := m) (K := K) (Ks := Ks) (rgt c) true j.val j.isLt) $$ [Hw1] with Hf1
  · isplitr; · iexact Hc
    isplitr; · iexact Hd1
    iexact Hw1
  imod (take_slot (m := m) (K := K) (Ks := Ks) (lft c) false j.val j.isLt) $$ [Hw2] with Hf2
  · isplitr; · iexact Hc
    isplitr; · iexact Hd2
    iexact Hw2
  iapply Hk
  isplitl [HO]; · iexact HO
  isplitl [Hs1]; · iexact Hs1
  isplitl [Hs2]; · iexact Hs2
  isplitl [Hf1]; · iexact Hf1
  iexact Hf2

theorem wp_credits_last (c : Dev nD) (l : List Duty) (hl : ∀ e ∈ l, 13 < dutyLv e) {k : P F} {Q : PUnit → sProp 𝕄} :
    iprop(ctx m K Ks ∗ credSt c true 5 ∗ credSt c false 5 ∗ takeRes c 5 ∗ owesL c l)
      ⊢ iprop(((owesL c l ∗ semVal (kcell (c, credK true)) 0 ∗ semVal (kcell (c, credK false)) 0 ∗ free cwM (rgt c) (par 7) ∗ free ccwM (lft c) (par 7)) -∗ wpc c k Q)
          -∗ wpc c (creditsProg cc0_scratch6 cc0_scratch7 k) Q) := by
  unfold takeRes creditsProg
  iintro ⟨#Hc, Hs1, Hs2, ⟨Hw1, Hw2, Hc1, Hc2⟩, HO⟩ Hk
  iapply (wp_credit_last (m := m) (K := K) (Ks := Ks) c true l hl sem_credR) $$ [Hs1 Hc1 HO]
  · isplitr; · iexact Hc
    isplitl [Hc1]; · iexact Hc1
    isplitl [HO] <;> iassumption
  iintro ⟨HO, Hs1, #Hd1⟩
  iapply (wp_credit_last (m := m) (K := K) (Ks := Ks) c false l hl sem_credL) $$ [Hs2 Hc2 HO]
  · isplitr; · iexact Hc
    isplitl [Hc2]; · iexact Hc2
    isplitl [HO] <;> iassumption
  iintro ⟨HO, Hs2, #Hd2⟩
  imod (take_slot (m := m) (K := K) (Ks := Ks) (rgt c) true 5 (by omega)) $$ [Hw1] with Hf1
  · isplitr; · iexact Hc
    isplitr; · iexact Hd1
    iexact Hw1
  imod (take_slot (m := m) (K := K) (Ks := Ks) (lft c) false 5 (by omega)) $$ [Hw2] with Hf2
  · isplitr; · iexact Hc
    isplitr; · iexact Hd2
    iexact Hw2
  iapply Hk
  isplitl [HO]; · iexact HO
  isplitl [Hs1]; · iexact Hs1
  isplitl [Hs2]; · iexact Hs2
  isplitl [Hf1]; · iexact Hf1
  iexact Hf2

end Cert.RingProof
end
-- ==== Proof.Max.lean ====
/-
  The exchange of the devices' maxima: each device copies its row into every other device's table, waits for the seven
  rows that come in, and for its own copies to be read out.
-/
module

public import proofs.«01_k».proof.Proof.Hops

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable {m : (ℓ : Loc nD τ sig) → Buf (Elt F) ℓ} {K : Dev nD × Cell → ℕ} {Ks : Key → ℕ}

/-! ## The sent row, read through shares -/

theorem src_share (c : Dev nD) (k : ℕ) : (srcPts m c (shRest k) : sProp 𝕄) ⊣⊢ iprop(srcPts m c (shPart k) ∗ srcPts m c (shRest (k + 1))) := by
  unfold srcPts
  exact pointsTo_share (PosShare.mem_left_op_right (shRest k))
theorem src_join (c : Dev nD) (k : ℕ) : iprop(srcPts m c (shPart k) ∗ srcPts m c (shRest (k + 1))) ⊢ srcPts m c (shRest k) := (src_share c k).2

theorem slice_credit (off : Fin 2 → Nat) (inb : ∀ a, off a + S1x128.size a ≤ S8x128.size a) :
    (tblM.slice (maxR off inb) (fun _ => rfl)).view.dmaCredit = Nrow := by unfold Nrow; rfl
theorem src_credit : srcM.view.dmaCredit = Nrow := by unfold Nrow; rfl

theorem row_landed (c c' : Dev nD) (inb : ∀ a, (![c.val, 0] : Fin 2 → Nat) a + S1x128.size a ≤ S8x128.size a)
    (fd : (rowM c).view.ty.Contents (Elt F)) :
    ((rowM c).view.loc (c' : Thread nD τ) ↦[(rowM c).view.set]{fullShare} ((rowM c).view.write (Elt F) fd (srcM.view.read (Elt F) (srcM.view.rep (maxRow m c))) Finset.univ) : sProp 𝕄)
      ⊢ rowPts m c' c := by
  unfold rowPts
  refine pointsTo_rep_of_read (c' : Thread nD τ) (rowM c) _ _ _ ?_
  rw [View.read_write_univ]
  exact View.read_rep _ _

/-! ## One transfer, one landing, one read out -/

/-- What transfer `h` of the exchange uses, -/
def maxTok (c : Dev nD) (h : Fin 7) : sProp 𝕄 :=
  iprop(tok c (.xfer h 4) ∗ tok c (.xfer h 5) ∗ atPos ER (kcell (c, .inl (h, 4))) 0 ∅ 0 ∗ atPos ER (kcell (c, .inl (h, 5))) 0 ∅ 0)
/-- the wait's credit, -/
def maxCred (c : Dev nD) (h : Fin 7) : sProp 𝕄 := cred (tallyAt (kcell (c, .inl (h, 5))) 20 Nrow)
/-- the row it goes to, -/
def maxRow' (c : Dev nD) (h : Fin 7) : sProp 𝕄 := rowFree (plus c (h.val + 1)) c
/-- the row that comes in, and the counters back at zero. -/
def maxIn (m : (ℓ : Loc nD τ sig) → Buf (Elt F) ℓ) (c : Dev nD) (h : Fin 7) : sProp 𝕄 := rowPts m c (minus c (h.val + 1))
def maxSems (c : Dev nD) (h : Fin 7) : sProp 𝕄 := iprop(semVal (kcell (c, .inl (h, 4))) 0 ∗ semVal (kcell (c, .inl (h, 5))) 0)

theorem wp_maxSend (c d : Dev nD) (h : Fin 7) (off : Fin 2 → Nat) (inb : ∀ a, off a + S1x128.size a ≤ S8x128.size a)
    (hoff : off = ![c.val, 0]) (hd : d = plus c (h.val + 1)) (l : List Duty) {k : P F} {Q : PUnit → sProp 𝕄} :
    iprop(ctx m K Ks ∗ srcPts m c (shRest h.val) ∗ maxRow' c h ∗ tok c (.xfer h 4) ∗ tok c (.xfer h 5) ∗ owesL c (.xfer h 5 :: l))
      ⊢ iprop(((srcPts m c (shRest (h.val + 1)) ∗ cred (tallyAt (kcell (c, .inl (h, 4))) 0 Nrow) ∗ owesL c l) -∗ wpc c k Q)
          -∗ wpc c (maxSendProg srcM (Memref.isWhole_whole _) tblM cc0_scratch11 cc0_scratch12 h off inb d k) Q) := by
  subst hoff hd
  unfold maxRow' rowFree Release.slot maxSendProg
  have hp1 : (srcM.view.loc (c : Thread nD τ) ↦[srcM.view.set]{shPart h.val} srcM.view.rep (maxRow m c) : sProp 𝕄) ⊢ pay m c (.inl (h, 4)) 0 :=
    Entails.of_eq rfl
  have hp2 (fd : (rowM c).view.ty.Contents (Elt F)) :
      (iprop(((rowM c).view.loc (plus c (h.val + 1) : Thread nD τ) ↦[(rowM c).view.set]{fullShare}
        ((rowM c).view.write (Elt F) fd (srcM.view.read (Elt F) (srcM.view.rep (maxRow m c))) Finset.univ)) ∗ emp) : sProp 𝕄)
      ⊢ pay m (plus c (h.val + 1)) (.inl (h, 5)) 0 := by
    show _ ⊢ rowPts m (plus c (h.val + 1)) (minus (plus c (h.val + 1)) (h.val + 1))
    rw [minus_plus]
    iintro ⟨H, -⟩
    iapply (row_landed c (plus c (h.val + 1)) inb)
    iexact H
  iintro ⟨#Hc, Hs, ⟨%fd, Hd⟩, Ht4, Ht5, HO⟩ Hk
  ihave Hs2 := (src_share c h.val).1 $$ Hs
  icases Hs2 with ⟨HsP, HsR⟩
  unfold srcPts
  iapply (wp_xfer (m := m) (K := K) (Ks := Ks) c (plus c (h.val + 1)) h 4 5 rfl rfl (sem_maxS h) (sem_maxR h) Nrow (slice_credit _ _) rfl rfl
    (q := shPart h.val) (fd := fd) (Fr := iprop(emp)) hp1 (hp2 fd) (l := l)) $$ [HsP Hd HO Ht4 Ht5]
  · isplitr; · iexact Hc
    isplitl [HsP]; · iexact HsP
    isplitl [Hd]
    · isplitl [Hd]; · iexact Hd
      iempintro
    isplitl [HO]; · iexact HO
    isplitl [Ht4] <;> iassumption
  iintro ⟨Hc4, HO⟩
  iapply Hk
  isplitl [HsR]; · iexact HsR
  isplitl [Hc4] <;> iassumption

theorem wp_maxLanded (c : Dev nD) (h : Fin 7) (off : Fin 2 → Nat) (inb : ∀ a, off a + S1x128.size a ≤ S8x128.size a) {k : P F} {Q : PUnit → sProp 𝕄} :
    iprop(ctx m K Ks ∗ maxCred c h ∗ owesL c [] ∗ atPos ER (kcell (c, .inl (h, 5))) 0 ∅ 0)
      ⊢ iprop(((owesL c [] ∗ semVal (kcell (c, .inl (h, 5))) 0 ∗ maxIn m c h) -∗ wpc c k Q)
          -∗ wpc c (maxLandedProg srcM (Memref.isWhole_whole _) tblM cc0_scratch12 h off inb k) Q) := by
  unfold maxLandedProg maxCred
  iintro ⟨#Hc, Hc5, HO, Ha5⟩ Hk
  iapply (wp_take (m := m) (K := K) (Ks := Ks) c (.inl (h, 5)) Nrow 20 [] (by show 1 * Nrow = Nrow; omega) (by omega) (fun e he => absurd he (List.not_mem_nil)) (sem_maxR h)
    (fun Kt => (wpE_waitDma2_eq 𝒱₀ (c : Thread nD τ) none Set.univ Kt).trans (by rw [slice_credit]))) $$ [Hc5 HO Ha5]
  · isplitr; · iexact Hc
    isplitl [Hc5]; · iexact Hc5
    isplitl [HO] <;> iassumption
  iintro ⟨HO, Hz, Hp⟩
  have e0 : (bigSep (dutiesOf (.inl (h, 5))) (pay m c (.inl (h, 5))) : sProp 𝕄) ⊢ maxIn m c h :=
    Entails.of_eq (by rw [show dutiesOf (.inl (h, 5)) = {0} from rfl, bigSep_singleton]; rfl)
  iapply Hk
  isplitl [HO]; · iexact HO
  isplitl [Hz]; · iexact Hz
  iapply e0; iexact Hp

theorem wp_maxSent (c : Dev nD) (h : Fin 7) (off : Fin 2 → Nat) (inb : ∀ a, off a + S1x128.size a ≤ S8x128.size a) {k : P F} {Q : PUnit → sProp 𝕄} :
    iprop(ctx m K Ks ∗ cred (tallyAt (kcell (c, .inl (h, 4))) 0 Nrow) ∗ owesL c [] ∗ atPos ER (kcell (c, .inl (h, 4))) 0 ∅ 0)
      ⊢ iprop(((owesL c [] ∗ semVal (kcell (c, .inl (h, 4))) 0 ∗ srcPts m c (shPart h.val)) -∗ wpc c k Q)
          -∗ wpc c (maxSentProg srcM (Memref.isWhole_whole _) tblM cc0_scratch11 h off inb k) Q) := by
  unfold maxSentProg
  iintro ⟨#Hc, Hc4, HO, Ha4⟩ Hk
  iapply (wp_take (m := m) (K := K) (Ks := Ks) c (.inl (h, 4)) Nrow 0 [] (by show 1 * Nrow = Nrow; omega) (by omega) (fun e he => absurd he (List.not_mem_nil)) (sem_maxS h)
    (fun Kt => (wpE_waitDma2_eq 𝒱₀ (c : Thread nD τ) none Set.univ Kt).trans (by rw [src_credit]))) $$ [Hc4 HO Ha4]
  · isplitr; · iexact Hc
    isplitl [Hc4]; · iexact Hc4
    isplitl [HO] <;> iassumption
  iintro ⟨HO, Hz, Hp⟩
  have e0 : (bigSep (dutiesOf (.inl (h, 4))) (pay m c (.inl (h, 4))) : sProp 𝕄) ⊢ srcPts m c (shPart h.val) :=
    Entails.of_eq (by rw [show dutiesOf (.inl (h, 4)) = {0} from rfl, bigSep_singleton]; rfl)
  iapply Hk
  isplitl [HO]; · iexact HO
  isplitl [Hz]; · iexact Hz
  iapply e0; iexact Hp

/-! ## The exchange -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem duesMax_eq : duesMax = [.xfer 0 5, .xfer 1 5, .xfer 2 5, .xfer 3 5, .xfer 4 5, .xfer 5 5, .xfer 6 5] := by decide +kernel

set_option maxHeartbeats 4000000 in
theorem wp_max (c : Dev nD) (f9 : (cc0_scratch9 : Ref sig .tc).ty.Contents (Elt F)) {k : P F} {Q : PUnit → sProp 𝕄} :
    iprop(ctx m K Ks ∗ smPts c (amaxAt m c 16) ∗ (srcM.view.loc (c : Thread nD τ) ↦[Finset.univ]{fullShare} f9) ∗ rowFree c c
        ∗ bigSep Finset.univ (maxRow' c) ∗ bigSep Finset.univ (maxTok c) ∗ bigSep Finset.univ (maxCred c) ∗ owesL c duesMax)
      ⊢ iprop(((smPts c (amaxAt m c 16) ∗ srcPts m c fullShare ∗ rowPts m c c ∗ bigSep Finset.univ (maxIn m c) ∗ bigSep Finset.univ (maxSems c) ∗ owesL c [])
            -∗ wpc c k Q)
          -∗ wpc c (maxProg smM srcM (Memref.isWhole_whole _) tblM cc0_scratch11 cc0_scratch12 c k) Q) := by
  rw [duesMax_eq]
  simp only [bigSep_fin7]
  obtain ⟨hd0, hd1, hd2, hd3, hd4, hd5, hd6⟩ := dev_max c
  unfold maxProg maxTok maxSems
  iintro ⟨#Hc, Hsm, Hsrc, Hrow, ⟨Hw0, Hw1, Hw2, Hw3, Hw4, Hw5, Hw6⟩, ⟨⟨Ht0, Hu0, Ha0, Hb0⟩, ⟨Ht1, Hu1, Ha1, Hb1⟩, ⟨Ht2, Hu2, Ha2, Hb2⟩, ⟨Ht3, Hu3, Ha3, Hb3⟩, ⟨Ht4, Hu4, Ha4, Hb4⟩, ⟨Ht5, Hu5, Ha5, Hb5⟩, ⟨Ht6, Hu6, Ha6, Hb6⟩⟩, ⟨Hk0, Hk1, Hk2, Hk3, Hk4, Hk5, Hk6⟩, HO⟩ Hk
  iapply (wp_ownMax m c _ _ (off_own c).1 f9) $$ [Hsm Hsrc Hrow]
  · isplitl [Hsm]; · iexact Hsm
    isplitl [Hsrc] <;> iassumption
  iintro ⟨Hsm, Hs, Hrow⟩
  iapply (wp_maxSend (m := m) (K := K) (Ks := Ks) c _ 0 _ _ (off_own c).2 hd0 _) $$ [Hs Hw0 Ht0 Hu0 HO]
  · isplitr; · iexact Hc
    isplitl [Hs]; · iexact Hs
    isplitl [Hw0]; · iexact Hw0
    isplitl [Ht0]; · iexact Ht0
    isplitl [Hu0] <;> iassumption
  iintro ⟨Hs, Hc0, HO⟩
  iapply (wp_maxSend (m := m) (K := K) (Ks := Ks) c _ 1 _ _ (off_own c).2 hd1 _) $$ [Hs Hw1 Ht1 Hu1 HO]
  · isplitr; · iexact Hc
    isplitl [Hs]; · iexact Hs
    isplitl [Hw1]; · iexact Hw1
    isplitl [Ht1]; · iexact Ht1
    isplitl [Hu1] <;> iassumption
  iintro ⟨Hs, Hc1, HO⟩
  iapply (wp_maxSend (m := m) (K := K) (Ks := Ks) c _ 2 _ _ (off_own c).2 hd2 _) $$ [Hs Hw2 Ht2 Hu2 HO]
  · isplitr; · iexact Hc
    isplitl [Hs]; · iexact Hs
    isplitl [Hw2]; · iexact Hw2
    isplitl [Ht2]; · iexact Ht2
    isplitl [Hu2] <;> iassumption
  iintro ⟨Hs, Hc2, HO⟩
  iapply (wp_maxSend (m := m) (K := K) (Ks := Ks) c _ 3 _ _ (off_own c).2 hd3 _) $$ [Hs Hw3 Ht3 Hu3 HO]
  · isplitr; · iexact Hc
    isplitl [Hs]; · iexact Hs
    isplitl [Hw3]; · iexact Hw3
    isplitl [Ht3]; · iexact Ht3
    isplitl [Hu3] <;> iassumption
  iintro ⟨Hs, Hc3, HO⟩
  iapply (wp_maxSend (m := m) (K := K) (Ks := Ks) c _ 4 _ _ (off_own c).2 hd4 _) $$ [Hs Hw4 Ht4 Hu4 HO]
  · isplitr; · iexact Hc
    isplitl [Hs]; · iexact Hs
    isplitl [Hw4]; · iexact Hw4
    isplitl [Ht4]; · iexact Ht4
    isplitl [Hu4] <;> iassumption
  iintro ⟨Hs, Hc4, HO⟩
  iapply (wp_maxSend (m := m) (K := K) (Ks := Ks) c _ 5 _ _ (off_own c).2 hd5 _) $$ [Hs Hw5 Ht5 Hu5 HO]
  · isplitr; · iexact Hc
    isplitl [Hs]; · iexact Hs
    isplitl [Hw5]; · iexact Hw5
    isplitl [Ht5]; · iexact Ht5
    isplitl [Hu5] <;> iassumption
  iintro ⟨Hs, Hc5, HO⟩
  iapply (wp_maxSend (m := m) (K := K) (Ks := Ks) c _ 6 _ _ (off_own c).2 hd6 _) $$ [Hs Hw6 Ht6 Hu6 HO]
  · isplitr; · iexact Hc
    isplitl [Hs]; · iexact Hs
    isplitl [Hw6]; · iexact Hw6
    isplitl [Ht6]; · iexact Ht6
    isplitl [Hu6] <;> iassumption
  iintro ⟨Hs, Hc6, HO⟩
  iapply (wp_maxLanded (m := m) (K := K) (Ks := Ks) c 0 _ _) $$ [Hk0 HO Hb0]
  · isplitr; · iexact Hc
    isplitl [Hk0]; · iexact Hk0
    isplitl [HO] <;> iassumption
  iintro ⟨HO, Hy0, Hin0⟩
  iapply (wp_maxLanded (m := m) (K := K) (Ks := Ks) c 1 _ _) $$ [Hk1 HO Hb1]
  · isplitr; · iexact Hc
    isplitl [Hk1]; · iexact Hk1
    isplitl [HO] <;> iassumption
  iintro ⟨HO, Hy1, Hin1⟩
  iapply (wp_maxLanded (m := m) (K := K) (Ks := Ks) c 2 _ _) $$ [Hk2 HO Hb2]
  · isplitr; · iexact Hc
    isplitl [Hk2]; · iexact Hk2
    isplitl [HO] <;> iassumption
  iintro ⟨HO, Hy2, Hin2⟩
  iapply (wp_maxLanded (m := m) (K := K) (Ks := Ks) c 3 _ _) $$ [Hk3 HO Hb3]
  · isplitr; · iexact Hc
    isplitl [Hk3]; · iexact Hk3
    isplitl [HO] <;> iassumption
  iintro ⟨HO, Hy3, Hin3⟩
  iapply (wp_maxLanded (m := m) (K := K) (Ks := Ks) c 4 _ _) $$ [Hk4 HO Hb4]
  · isplitr; · iexact Hc
    isplitl [Hk4]; · iexact Hk4
    isplitl [HO] <;> iassumption
  iintro ⟨HO, Hy4, Hin4⟩
  iapply (wp_maxLanded (m := m) (K := K) (Ks := Ks) c 5 _ _) $$ [Hk5 HO Hb5]
  · isplitr; · iexact Hc
    isplitl [Hk5]; · iexact Hk5
    isplitl [HO] <;> iassumption
  iintro ⟨HO, Hy5, Hin5⟩
  iapply (wp_maxLanded (m := m) (K := K) (Ks := Ks) c 6 _ _) $$ [Hk6 HO Hb6]
  · isplitr; · iexact Hc
    isplitl [Hk6]; · iexact Hk6
    isplitl [HO] <;> iassumption
  iintro ⟨HO, Hy6, Hin6⟩
  iapply (wp_maxSent (m := m) (K := K) (Ks := Ks) c 0 _ _) $$ [Hc0 HO Ha0]
  · isplitr; · iexact Hc
    isplitl [Hc0]; · iexact Hc0
    isplitl [HO] <;> iassumption
  iintro ⟨HO, Hz0, Hp0⟩
  iapply (wp_maxSent (m := m) (K := K) (Ks := Ks) c 1 _ _) $$ [Hc1 HO Ha1]
  · isplitr; · iexact Hc
    isplitl [Hc1]; · iexact Hc1
    isplitl [HO] <;> iassumption
  iintro ⟨HO, Hz1, Hp1⟩
  iapply (wp_maxSent (m := m) (K := K) (Ks := Ks) c 2 _ _) $$ [Hc2 HO Ha2]
  · isplitr; · iexact Hc
    isplitl [Hc2]; · iexact Hc2
    isplitl [HO] <;> iassumption
  iintro ⟨HO, Hz2, Hp2⟩
  iapply (wp_maxSent (m := m) (K := K) (Ks := Ks) c 3 _ _) $$ [Hc3 HO Ha3]
  · isplitr; · iexact Hc
    isplitl [Hc3]; · iexact Hc3
    isplitl [HO] <;> iassumption
  iintro ⟨HO, Hz3, Hp3⟩
  iapply (wp_maxSent (m := m) (K := K) (Ks := Ks) c 4 _ _) $$ [Hc4 HO Ha4]
  · isplitr; · iexact Hc
    isplitl [Hc4]; · iexact Hc4
    isplitl [HO] <;> iassumption
  iintro ⟨HO, Hz4, Hp4⟩
  iapply (wp_maxSent (m := m) (K := K) (Ks := Ks) c 5 _ _) $$ [Hc5 HO Ha5]
  · isplitr; · iexact Hc
    isplitl [Hc5]; · iexact Hc5
    isplitl [HO] <;> iassumption
  iintro ⟨HO, Hz5, Hp5⟩
  iapply (wp_maxSent (m := m) (K := K) (Ks := Ks) c 6 _ _) $$ [Hc6 HO Ha6]
  · isplitr; · iexact Hc
    isplitl [Hc6]; · iexact Hc6
    isplitl [HO] <;> iassumption
  iintro ⟨HO, Hz6, Hp6⟩
  ihave Hs := (src_join c 6) $$ [Hp6 Hs]
  · isplitl [Hp6]; · iexact Hp6
    iexact Hs
  ihave Hs := (src_join c 5) $$ [Hp5 Hs]
  · isplitl [Hp5]; · iexact Hp5
    iexact Hs
  ihave Hs := (src_join c 4) $$ [Hp4 Hs]
  · isplitl [Hp4]; · iexact Hp4
    iexact Hs
  ihave Hs := (src_join c 3) $$ [Hp3 Hs]
  · isplitl [Hp3]; · iexact Hp3
    iexact Hs
  ihave Hs := (src_join c 2) $$ [Hp2 Hs]
  · isplitl [Hp2]; · iexact Hp2
    iexact Hs
  ihave Hs := (src_join c 1) $$ [Hp1 Hs]
  · isplitl [Hp1]; · iexact Hp1
    iexact Hs
  ihave Hs := (src_join c 0) $$ [Hp0 Hs]
  · isplitl [Hp0]; · iexact Hp0
    iexact Hs
  iapply Hk
  isplitl [Hsm]; · iexact Hsm
  isplitl [Hs]; · iexact Hs
  isplitl [Hrow]; · iexact Hrow
  isplitl [Hin0 Hin1 Hin2 Hin3 Hin4 Hin5 Hin6]
  · isplitl [Hin0]; · iexact Hin0
    isplitl [Hin1]; · iexact Hin1
    isplitl [Hin2]; · iexact Hin2
    isplitl [Hin3]; · iexact Hin3
    isplitl [Hin4]; · iexact Hin4
    isplitl [Hin5]; · iexact Hin5
    iexact Hin6
  isplitl [Hy0 Hz0 Hy1 Hz1 Hy2 Hz2 Hy3 Hz3 Hy4 Hz4 Hy5 Hz5 Hy6 Hz6]
  · isplitl [Hy0 Hz0]; · isplitl [Hz0] <;> iassumption
    isplitl [Hy1 Hz1]; · isplitl [Hz1] <;> iassumption
    isplitl [Hy2 Hz2]; · isplitl [Hz2] <;> iassumption
    isplitl [Hy3 Hz3]; · isplitl [Hz3] <;> iassumption
    isplitl [Hy4 Hz4]; · isplitl [Hz4] <;> iassumption
    isplitl [Hy5 Hz5]; · isplitl [Hz5] <;> iassumption
    isplitl [Hz6] <;> iassumption
  iexact HO

end Cert.RingProof
end
-- ==== Proof.Step.lean ====
/-
  The whole body on one device, at a symbolic device: from its share of the schedule and its buffers to the product, cut at
  zero and quantised, with everything handed back.
-/
module

public import proofs.«01_k».proof.Proof.Max

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable {m : (ℓ : Loc nD τ sig) → Buf (Elt F) ℓ} {K : Dev nD × Cell → ℕ} {Ks : Key → ℕ}

/-! ## One hop -/

/-- What a hop's own transfers use, -/
def hopTok (c : Dev nD) (h : Fin 7) : sProp 𝕄 :=
  iprop(tok c (.xfer h 0) ∗ tok c (.xfer h 1) ∗ tok c (.xfer h 2) ∗ tok c (.xfer h 3)
    ∗ atPos ER (kcell (c, .inl (h, 0))) 0 ∅ 0 ∗ atPos ER (kcell (c, .inl (h, 2))) 0 ∅ 0)
/-- what its waits for the next chunks use, -/
def landRes (c : Dev nD) (h : Fin 7) : sProp 𝕄 :=
  iprop(cred (tallyAt (kcell (c, .inl (h, 1))) (2 * h.val + 2) Ncw) ∗ cred (tallyAt (kcell (c, .inl (h, 3))) (2 * h.val + 2) Nccw)
    ∗ atPos ER (kcell (c, .inl (h, 1))) 0 ∅ 0 ∗ atPos ER (kcell (c, .inl (h, 3))) 0 ∅ 0)
/-- and the counters it leaves at zero. -/
def sentSems (c : Dev nD) (h : Fin 7) : sProp 𝕄 := iprop(semVal (kcell (c, .inl (h, 0))) 0 ∗ semVal (kcell (c, .inl (h, 2))) 0)
def landSems (c : Dev nD) (h : Fin 7) : sProp 𝕄 := iprop(semVal (kcell (c, .inl (h, 1))) 0 ∗ semVal (kcell (c, .inl (h, 3))) 0)
/-- The row a hop stops at its owner. -/
def ownRow (c : Dev nD) (h : Fin 7) : sProp 𝕄 := rowFree (rgtN (h.val + 1) c) c

/-- The two chunks of hop `h`, -/
def chunks (m : (ℓ : Loc nD τ sig) → Buf (Elt F) ℓ) (c : Dev nD) (h : ℕ) : sProp 𝕄 :=
  iprop(held cwM c (par h) fullShare (top m (lftN h c)) ∗ held ccwM c (par h) fullShare (bot m (rgtN h c)))
/-- and the weights, the result and the running maximum after `n` blocks. -/
def work (m : (ℓ : Loc nD τ sig) → Buf (Elt F) ℓ) (c : Dev nD) (f : (cc0_stg2_0 : Ref sig .tc).ty.Contents (Elt F)) (n : ℕ) : sProp 𝕄 :=
  iprop(wPts m c ∗ oPts c (oM.view.writes (Elt F) f (pieces m c n)) ∗ smPts c (amaxAt m c n))

theorem wp_block (c : Dev nD) (n : ℕ) (a : Memref sig .tc .vmem S2x256x4096 .bf16) (p : Fin 2) (q : PosShare TreeShare) (v : Vec F S256x4096 .bf16)
    (off : Fin 2 → Nat) (inb : ∀ a, off a + S256x1024.size a ≤ S4096x1024.size a) (hv : chunkAt m c n = v) (hoff : off = ![rowOf c n, 0])
    (f : (cc0_stg2_0 : Ref sig .tc).ty.Contents (Elt F)) {k : P F} {Q : PUnit → sProp 𝕄} :
    iprop(held a c p q v ∗ work m c f n)
      ⊢ iprop(((held a c p q v ∗ work m c f (n + 1)) -∗ wpc c k Q) -∗ wpc c (gemmProg wM oM smM a p off inb k) Q) := by
  subst hv
  unfold work
  exact wp_gemm m c n a p q off inb hoff f

/-- A hop: both transfers out, both blocks computed meanwhile, both transfers waited for. -/
theorem wp_hop (c : Dev nD) (h : Fin 7) (s r : Fin 2) (dR dL : Dev nD) (off off' : Fin 2 → Nat)
    (inb : ∀ a, off a + S256x1024.size a ≤ S4096x1024.size a) (inb' : ∀ a, off' a + S256x1024.size a ≤ S4096x1024.size a)
    (hs : s = par h.val) (hr : r = par (h.val + 1)) (hR : dR = rgt c) (hL : dL = lft c)
    (hoff : off = ![rowOf c (2 * h.val), 0]) (hoff' : off' = ![rowOf c (2 * h.val + 1), 0])
    (f : (cc0_stg2_0 : Ref sig .tc).ty.Contents (Elt F)) (l : List Duty) (hl : ∀ e ∈ l, 0 < dutyLv e) {k : P F} {Q : PUnit → sProp 𝕄} :
    iprop(ctx m K Ks ∗ chunks m c h.val ∗ fwd c (h.val + 1) ∗ work m c f (2 * h.val) ∗ free cwM (rgt c) (par (h.val + 1)) ∗ free ccwM (lft c) (par (h.val + 1))
        ∗ hopTok c h ∗ owesL c (.xfer h 1 :: .xfer h 3 :: l))
      ⊢ iprop(((chunks m c h.val ∗ work m c f (2 * h.val + 2) ∗ ownRow c h ∗ sentSems c h ∗ owesL c l) -∗ wpc c k Q)
          -∗ wpc c (hopProg wM oM cwM ccwM (Memref.isWhole_whole _) (Memref.isWhole_whole _) cc0_scratch2 cc0_scratch3 cc0_scratch4 cc0_scratch5 smM
              h s r dR dL off off' inb inb' k) Q) := by
  subst hs hr
  unfold hopProg chunks hopTok ownRow sentSems
  iintro ⟨#Hc, ⟨Ha, Hb⟩, Hfw, Hw, Hfa, Hfb, ⟨Ht0, Ht1, Ht2, Ht3, Hp0, Hp2⟩, HO⟩ Hk
  iapply (wp_sends (m := m) (K := K) (Ks := Ks) c h _ _ _ _ rfl rfl hR hL l) $$ [Ha Hb Hfa Hfb Hfw HO Ht0 Ht1 Ht2 Ht3]
  · isplitr; · iexact Hc
    isplitl [Ha]; · iexact Ha
    isplitl [Hb]; · iexact Hb
    isplitl [Hfa]; · iexact Hfa
    isplitl [Hfb]; · iexact Hfb
    isplitl [Hfw]; · iexact Hfw
    isplitl [HO]; · iexact HO
    isplitl [Ht0]; · iexact Ht0
    isplitl [Ht1]; · iexact Ht1
    isplitl [Ht2] <;> iassumption
  iintro ⟨Ha, Hb, Hrow, Hc0, Hc2, HO⟩
  iapply (wp_block (m := m) c (2 * h.val) cwM (par h.val) fullShare.right _ _ _ (chunkAt_even m c h.val) hoff f) $$ [Ha Hw]
  · isplitl [Ha] <;> iassumption
  iintro ⟨Ha, Hw⟩
  iapply (wp_block (m := m) c (2 * h.val + 1) ccwM (par h.val) fullShare.right _ _ _ (chunkAt_odd m c h.val) hoff' f) $$ [Hb Hw]
  · isplitl [Hb] <;> iassumption
  iintro ⟨Hb, Hw⟩
  iapply (wp_sent (m := m) (K := K) (Ks := Ks) c h _ _ l hl) $$ [Hc0 Hc2 HO Hp0 Hp2]
  · isplitr; · iexact Hc
    isplitl [Hc0]; · iexact Hc0
    isplitl [Hc2]; · iexact Hc2
    isplitl [HO]; · iexact HO
    isplitl [Hp0] <;> iassumption
  iintro ⟨HaL, HbL, HO, Hz0, Hz2⟩
  ihave Ha := (held_halves cwM c _ _).2 $$ [HaL Ha]
  · isplitl [HaL] <;> iassumption
  ihave Hb := (held_halves ccwM c _ _).2 $$ [HbL Hb]
  · isplitl [HbL] <;> iassumption
  iapply Hk
  isplitl [Ha Hb]
  · isplitl [Ha] <;> iassumption
  isplitl [Hw]; · iexact Hw
  isplitl [Hrow]; · iexact Hrow
  isplitl [Hz0 Hz2]
  · isplitl [Hz0] <;> iassumption
  iexact HO

/-- A hop that gives its slots back, up to the arrival of the next chunks. -/
theorem wp_step (c : Dev nD) (h : Fin 7) (h6 : Fin 6) (h7 : h.val = h6.val) (s r : Fin 2) (dR dL dL' dR' : Dev nD) (off off' : Fin 2 → Nat)
    (inb : ∀ a, off a + S256x1024.size a ≤ S4096x1024.size a) (inb' : ∀ a, off' a + S256x1024.size a ≤ S4096x1024.size a)
    (hs : s = par h.val) (hr : r = par (h.val + 1)) (hd : dR = rgt c ∧ dL = lft c ∧ dL' = lft c ∧ dR' = rgt c)
    (hoff : off = ![rowOf c (2 * h.val), 0] ∧ off' = ![rowOf c (2 * h.val + 1), 0])
    (f : (cc0_stg2_0 : Ref sig .tc).ty.Contents (Elt F)) (l : List Duty) (hl : ∀ e ∈ l, 2 * h.val + 2 < dutyLv e) {k : P F} {Q : PUnit → sProp 𝕄} :
    iprop(ctx m K Ks ∗ chunks m c h.val ∗ fwd c (h.val + 1) ∗ work m c f (2 * h.val) ∗ free cwM (rgt c) (par (h.val + 1)) ∗ free ccwM (lft c) (par (h.val + 1))
        ∗ hopTok c h ∗ landRes c h ∗ relRes c h6 ∗ up c true h.val ∗ up c false h.val
        ∗ owesL c (.xfer h 1 :: .xfer h 3 :: .credit h6 0 :: .credit h6 1 :: l))
      ⊢ iprop(((chunks m c (h.val + 1) ∗ fwd c (h.val + 2) ∗ work m c f (2 * (h.val + 1)) ∗ ownRow c h ∗ sentSems c h ∗ landSems c h
            ∗ up c true (h.val + 1) ∗ up c false (h.val + 1) ∗ owesL c l) -∗ wpc c k Q)
          -∗ wpc c (hopProg wM oM cwM ccwM (Memref.isWhole_whole _) (Memref.isWhole_whole _) cc0_scratch2 cc0_scratch3 cc0_scratch4 cc0_scratch5 smM
              h s r dR dL off off' inb inb' (signalsProg cc0_scratch6 cc0_scratch7 dL' dR'
              (landedProg cwM ccwM (Memref.isWhole_whole _) (Memref.isWhole_whole _) cc0_scratch3 cc0_scratch5 h s r k))) Q) := by
  obtain ⟨hR, hL, hL', hR'⟩ := hd
  have hl0 : ∀ e ∈ (.credit h6 0 :: .credit h6 1 :: l : List Duty), 0 < dutyLv e := by
    intro e he
    rcases List.mem_cons.mp he with rfl | he
    · show 0 < 2 * h6.val + 3; omega
    rcases List.mem_cons.mp he with rfl | he
    · show 0 < 2 * h6.val + 3; omega
    · have := hl e he; omega
  iintro ⟨#Hc, Hch, Hfw, Hw, Hfa, Hfb, Htk, Hld, Hrel, #Hu1, #Hu2, HO⟩ Hk
  iapply (wp_hop (m := m) (K := K) (Ks := Ks) c h s r dR dL off off' inb inb' hs hr hR hL hoff.1 hoff.2 f _ hl0) $$ [Hch Hfw Hw Hfa Hfb Htk HO]
  · isplitr; · iexact Hc
    isplitl [Hch]; · iexact Hch
    isplitl [Hfw]; · iexact Hfw
    isplitl [Hw]; · iexact Hw
    isplitl [Hfa]; · iexact Hfa
    isplitl [Hfb]; · iexact Hfb
    isplitl [Htk] <;> iassumption
  iintro ⟨Hch, Hw, Hrow, Hz, HO⟩
  unfold chunks landRes landSems
  icases Hch with ⟨Ha, Hb⟩
  icases Hld with ⟨Hc1, Hc3, Hp1, Hp3⟩
  rw [h7]
  iapply (wp_signals (m := m) (K := K) (Ks := Ks) c h6 dL' dR' hL' hR' _ _ l) $$ [Ha Hb Hrel HO]
  · isplitr; · iexact Hc
    isplitl [Ha]; · iexact Ha
    isplitl [Hb]; · iexact Hb
    isplitl [Hrel]; · iexact Hrel
    isplitr; · iexact Hu1
    isplitr; · iexact Hu2
    iexact HO
  iintro ⟨HO, #Hv1, #Hv2⟩
  rw [← h7]
  iapply (wp_landed (m := m) (K := K) (Ks := Ks) c h s r l hl) $$ [Hc1 Hc3 HO Hp1 Hp3]
  · isplitr; · iexact Hc
    isplitl [Hc1]; · iexact Hc1
    isplitl [Hc3]; · iexact Hc3
    isplitl [HO]; · iexact HO
    isplitl [Hp1] <;> iassumption
  iintro ⟨Ha, Hb, Hfw, HO, Hz1, Hz3⟩
  iapply Hk
  isplitl [Ha Hb]
  · isplitl [Ha] <;> iassumption
  isplitl [Hfw]; · iexact Hfw
  isplitl [Hw]; · iexact Hw
  isplitl [Hrow]; · iexact Hrow
  isplitl [Hz]; · iexact Hz
  isplitl [Hz1 Hz3]
  · isplitl [Hz1] <;> iassumption
  isplitr; · iexact Hv1
  isplitr; · iexact Hv2
  iexact HO

end Cert.RingProof
end
-- ==== Proof.Parts.lean ====
/-
  The buffers cut into the pieces that travel, and put together again.
-/
module

public import proofs.«01_k».proof.Proof.Step

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable {m : (ℓ : Loc nD τ sig) → Buf (Elt F) ℓ}

/-! ## The table and its rows -/

theorem row_box (d : Dev nD) : (rowM d).view.set = (maxR ![d.val, 0] (row_inb d)).set := View.set_slice_whole _ _
theorem row_mem (d : Dev nD) (i : S8x128.Idx) : i ∈ (maxR ![d.val, 0] (row_inb d)).set ↔ (i 0).val = d.val := by
  rw [Rect.mem_set_unit]
  constructor
  · intro h
    have h0 := h 0
    change d.val ≤ (i 0).val ∧ (i 0).val < d.val + 1 at h0
    omega
  · intro h a
    fin_cases a
    · show d.val ≤ (i 0).val ∧ (i 0).val < d.val + 1
      omega
    · have h1 : (i 1).val < 128 := (i 1).isLt
      show 0 ≤ (i 1).val ∧ (i 1).val < 0 + 128
      omega

theorem rows_disj : ∀ t ∈ (Finset.univ : Finset (Dev nD)), ∀ t' ∈ (Finset.univ : Finset (Dev nD)), t ≠ t' →
    Disjoint (maxR ![t.val, 0] (row_inb t)).set (maxR ![t'.val, 0] (row_inb t')).set := by
  intro t _ t' _ hne
  rw [Finset.disjoint_left]
  intro i hi hi'
  exact hne (Fin.ext (((row_mem t i).mp hi).symm.trans ((row_mem t' i).mp hi')))
theorem rows_univ : (Finset.univ : Finset (Dev nD)).biUnion (fun d => (maxR ![d.val, 0] (row_inb d)).set) = Finset.univ := by
  ext i
  simp only [Finset.mem_biUnion, Finset.mem_univ, true_and, iff_true]
  exact ⟨⟨(i 0).val, (i 0).isLt⟩, (row_mem _ i).mpr rfl⟩

/-- The whole table is its eight rows; -/
theorem rows_split (c : Dev nD) (f : (cc0_scratch10 : Ref sig .tc).ty.Contents (Elt F)) :
    (tblM.view.loc (c : Thread nD τ) ↦[Finset.univ]{fullShare} f : sProp 𝕄)
      = bigSep Finset.univ fun d : Dev nD => ((rowM d).view.loc (c : Thread nD τ) ↦[(rowM d).view.set]{fullShare} f : sProp 𝕄) := by
  rw [← rows_univ, pointsTo_biUnion (ℓ := tblM.view.loc (c : Thread nD τ)) Finset.univ (fun d : Dev nD => (maxR ![d.val, 0] (row_inb d)).set) rows_disj]
  refine congrArg _ (funext fun d => ?_)
  rw [row_box]

theorem rows_free (c : Dev nD) (f : (cc0_scratch10 : Ref sig .tc).ty.Contents (Elt F)) :
    (tblM.view.loc (c : Thread nD τ) ↦[Finset.univ]{fullShare} f : sProp 𝕄) ⊢ iprop(rowFree c c ∗ fwd (lft c) 1) := by
  rw [rows_split, ← fwd_start]
  have h1 (d : Dev nD) : ((rowM d).view.loc (c : Thread nD τ) ↦[(rowM d).view.set]{fullShare} f : sProp 𝕄) ⊢ rowFree c d := by
    unfold rowFree Release.slot
    iintro H
    iexists f
    iexact H
  rw [bigSep_univ_at _ c]
  exact Idealize.SL.BI.Laws.sep_mono (h1 c) (bigSep_mono fun d _ => h1 d)

theorem table_row (d : Dev nD) (i : S8x128.Idx) (hi : i ∈ (rowM d).view.set) : (rowM d).view.rep (Val := Elt F) (maxRow m d) i = tblV m i := by
  obtain ⟨x, -, rfl⟩ := Finset.mem_map.mp hi
  rw [View.rep_emb]
  have h0 : (((rowM d).view.emb x : S8x128.Idx) 0).val = d.val := (row_mem d _).mp (by rw [← row_box]; exact hi)
  have h1 : (((rowM d).view.emb x : S8x128.Idx) 0 : Dev nD) = d := Fin.ext h0
  show amaxAt m d 16 = amaxAt m (((rowM d).view.emb x : S8x128.Idx) 0) 16
  rw [h1]

theorem minus_image (c : Dev nD) : (Finset.univ.erase c : Finset (Dev nD)) = (Finset.univ : Finset (Fin 7)).image fun h => minus c (h.val + 1) := by
  revert c; decide +kernel
theorem plus_image (c : Dev nD) : (Finset.univ.erase c : Finset (Dev nD)) = (Finset.univ : Finset (Fin 7)).image fun h => plus c (h.val + 1) := by
  revert c; decide +kernel
theorem ring_image (c : Dev nD) : (Finset.univ.erase c : Finset (Dev nD)) = (Finset.univ : Finset (Fin 7)).image fun h => rgtN (h.val + 1) c := by
  revert c; decide +kernel
theorem minus_inj (c : Dev nD) (a b : Fin 7) (h : minus c (a.val + 1) = minus c (b.val + 1)) : a = b := by
  revert c a b; decide +kernel
theorem plus_inj (c : Dev nD) (a b : Fin 7) (h : plus c (a.val + 1) = plus c (b.val + 1)) : a = b := by
  revert c a b; decide +kernel
theorem ring_inj (c : Dev nD) (a b : Fin 7) (h : rgtN (a.val + 1) c = rgtN (b.val + 1) c) : a = b := by
  revert c a b; decide +kernel

/-- The eight rows that have come in are the table of all maxima. -/
theorem table_join (c : Dev nD) : iprop(rowPts m c c ∗ bigSep Finset.univ (maxIn m c)) ⊢ (tblPts m c : sProp 𝕄) := by
  unfold tblPts
  rw [rows_split, bigSep_univ_at _ c, minus_image, bigSep_image_of_injOn (fun a _ b _ h => minus_inj c a b h)]
  have h1 (d : Dev nD) : rowPts m c d ⊢ ((rowM d).view.loc (c : Thread nD τ) ↦[(rowM d).view.set]{fullShare} tblV m : sProp 𝕄) := by
    unfold rowPts
    exact Entails.of_eq (pointsTo_congr fun i hi => table_row d i hi)
  exact Idealize.SL.BI.Laws.sep_mono (h1 c) (bigSep_mono fun h _ => h1 _)

/-- The rows a device owns at the end of the ring are those it sends its maximum to. -/
theorem rows_turn (c : Dev nD) : (bigSep Finset.univ (ownRow (F := F) c) : sProp 𝕄) = bigSep Finset.univ (maxRow' c) := by
  have e1 : (bigSep (Finset.univ.erase c) fun d => rowFree (F := F) d c) = bigSep Finset.univ (ownRow (F := F) c) := by
    rw [ring_image, bigSep_image_of_injOn (fun a _ b _ h => ring_inj c a b h)]; rfl
  have e2 : (bigSep (Finset.univ.erase c) fun d => rowFree (F := F) d c) = bigSep Finset.univ (maxRow' (F := F) c) := by
    rw [plus_image, bigSep_image_of_injOn (fun a _ b _ h => plus_inj c a b h)]; rfl
  exact e1.symm.trans e2

/-! ## The double buffers and their slots -/

theorem slot_mem (p : Fin 2) (i : S2x256x4096.Idx) : i ∈ (slotR p).set ↔ (i 0).val = p.val := by
  rw [Rect.mem_set_unit]
  constructor
  · intro h
    have h0 := h 0
    change p.val ≤ (i 0).val ∧ (i 0).val < p.val + 1 at h0
    omega
  · intro h a
    have h1 : (i 1).val < 256 := (i 1).isLt
    have h2 : (i 2).val < 4096 := (i 2).isLt
    fin_cases a
    · show p.val ≤ (i 0).val ∧ (i 0).val < p.val + 1
      omega
    · show 0 ≤ (i 1).val ∧ (i 1).val < 0 + 256
      omega
    · show 0 ≤ (i 2).val ∧ (i 2).val < 0 + 4096
      omega

theorem slots_disj : Disjoint (slotR 0).set (slotR 1).set := by
  rw [Finset.disjoint_left]
  intro i hi hi'
  have h0 := (slot_mem 0 i).mp hi
  have h1 := (slot_mem 1 i).mp hi'
  rw [h0] at h1
  exact absurd h1 (by decide)
theorem slots_univ : (slotR 0).set ∪ (slotR 1).set = Finset.univ := by
  ext i
  simp only [Finset.mem_union, Finset.mem_univ, iff_true, slot_mem]
  have : (i 0).val < 2 := (i 0).isLt
  show (i 0).val = 0 ∨ (i 0).val = 1
  omega

theorem cw_box (p : Fin 2) : (slotQ cwM p).view.set = (slotR p).set := (Memref.set_view_squeeze _ _).trans (View.set_slice_whole _ _)
theorem ccw_box (p : Fin 2) : (slotQ ccwM p).view.set = (slotR p).set := (Memref.set_view_squeeze _ _).trans (View.set_slice_whole _ _)

theorem cw_split (c : Dev nD) (f : (cc0_scratch0 : Ref sig .tc).ty.Contents (Elt F)) :
    (cwM.view.loc (c : Thread nD τ) ↦[Finset.univ]{fullShare} f : sProp 𝕄) ⊢ iprop(free cwM c 0 ∗ free cwM c 1) := by
  unfold free Release.slot
  rw [cw_box, cw_box, ← slots_univ]
  iintro H
  ihave H2 := (pointsTo_union (ℓ := cwM.view.loc (c : Thread nD τ)) (f := f) (q := fullShare) slots_disj).1 $$ H
  icases H2 with ⟨H0, H1⟩
  isplitl [H0]
  · iexists f; iexact H0
  · iexists f; iexact H1
theorem ccw_split (c : Dev nD) (f : (cc0_scratch1 : Ref sig .tc).ty.Contents (Elt F)) :
    (ccwM.view.loc (c : Thread nD τ) ↦[Finset.univ]{fullShare} f : sProp 𝕄) ⊢ iprop(free ccwM c 0 ∗ free ccwM c 1) := by
  unfold free Release.slot
  rw [ccw_box, ccw_box, ← slots_univ]
  iintro H
  ihave H2 := (pointsTo_union (ℓ := ccwM.view.loc (c : Thread nD τ)) (f := f) (q := fullShare) slots_disj).1 $$ H
  icases H2 with ⟨H0, H1⟩
  isplitl [H0]
  · iexists f; iexact H0
  · iexists f; iexact H1

theorem cw_join (c : Dev nD) : iprop(free cwM c 0 ∗ free cwM c 1) ⊢ (iprop(∃ f, cwM.view.loc (c : Thread nD τ) ↦[Finset.univ]{fullShare} f) : sProp 𝕄) := by
  unfold free Release.slot
  rw [cw_box, cw_box, ← slots_univ]
  iintro ⟨⟨%f, H0⟩, ⟨%g, H1⟩⟩
  iexists _
  iapply (pointsTo_join (ℓ := cwM.view.loc (c : Thread nD τ)) slots_disj)
  isplitl [H0]
  · iexact H0
  · iexact H1
theorem ccw_join (c : Dev nD) : iprop(free ccwM c 0 ∗ free ccwM c 1) ⊢ (iprop(∃ f, ccwM.view.loc (c : Thread nD τ) ↦[Finset.univ]{fullShare} f) : sProp 𝕄) := by
  unfold free Release.slot
  rw [ccw_box, ccw_box, ← slots_univ]
  iintro ⟨⟨%f, H0⟩, ⟨%g, H1⟩⟩
  iexists _
  iapply (pointsTo_join (ℓ := ccwM.view.loc (c : Thread nD τ)) slots_disj)
  isplitl [H0]
  · iexact H0
  · iexact H1

end Cert.RingProof
end
-- ==== Proof.Body.lean ====
/-
  The whole body on one device, at a symbolic device: from its share of the schedule and its buffers to the product, cut at
  zero and quantised, with everything handed back.
-/
module

public import proofs.«01_k».proof.Proof.Parts

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable {m : (ℓ : Loc nD τ sig) → Buf (Elt F) ℓ} {K : Dev nD × Cell → ℕ} {Ks : Key → ℕ}

/-- The barrier's part of a device's share. -/
def entryRes (c : Dev nD) : sProp 𝕄 :=
  iprop(tok c (.entry 0) ∗ tok c (.entry 1) ∗ atPos ER (kcell (c, .inr 2)) 0 ∅ 0 ∗ cred (tallyAt (kcell (c, .inr 2)) 1 2))
/-- A device's share of the schedule, -/
def share (c : Dev nD) : sProp 𝕄 :=
  iprop(entryRes c ∗ bigSep Finset.univ (hopTok c) ∗ bigSep Finset.univ (landRes c) ∗ bigSep Finset.univ (relRes c) ∗ bigSep Finset.univ (takeRes c)
    ∗ credSt c true 0 ∗ credSt c false 0 ∗ bigSep Finset.univ (maxTok c) ∗ bigSep Finset.univ (maxCred c))
/-- and its counters, all at zero at the end. -/
def sems (c : Dev nD) : sProp 𝕄 :=
  iprop(bigSep Finset.univ (sentSems c) ∗ bigSep Finset.univ (landSems c) ∗ bigSep Finset.univ (maxSems c)
    ∗ semVal (kcell (c, credK true)) 0 ∗ semVal (kcell (c, credK false)) 0 ∗ semVal (kcell (c, .inr 2)) 0)

theorem up_zero (c : Dev nD) (t : Bool) : (iprop(emp) : sProp 𝕄) ⊢ up c t 0 := by
  refine Entails.of_eq ?_
  unfold up; rw [Finset.range_zero, bigSep_empty]; rfl

theorem pay_entry (c : Dev nD) : (bigSep (dutiesOf (.inr 2)) (pay m c (.inr 2)) : sProp 𝕄)
    ⊢ iprop(free ccwM (lft c) 1 ∗ free cwM (rgt c) 1 ∗ fwd c 1) := by
  refine Entails.of_eq ?_
  rw [show dutiesOf (.inr 2) = {0, 1} from rfl, bigSep_insert (by decide), bigSep_singleton]; rfl

/-- The handshake with both neighbours, and the device's own chunks. -/
theorem wp_prologue (c : Dev nD) (dL dR : Dev nD) (hd : dL = lft c ∧ dR = rgt c) (f8 : (cc0_scratch8 : Ref sig .tc).ty.Contents (Elt F)) (l : List Duty)
    (hl : ∀ e ∈ l, 1 < dutyLv e) {k : P F} {Q : PUnit → sProp 𝕄} :
    iprop(ctx m K Ks ∗ entryRes c ∗ owesL c (.entry 0 :: .entry 1 :: l) ∗ xPts m c ∗ free cwM c 0 ∗ free cwM c 1 ∗ free ccwM c 0 ∗ free ccwM c 1
        ∗ (smM.view.loc (c : Thread nD τ) ↦[Finset.univ]{fullShare} f8) ∗ fwd (lft c) 1)
      ⊢ iprop(((owesL c l ∗ xPts m c ∗ chunks m c 0 ∗ smPts c (amaxAt m c 0) ∗ free cwM (rgt c) 1 ∗ free ccwM (lft c) 1 ∗ fwd c 1 ∗ semVal (kcell (c, .inr 2)) 0)
            -∗ wpc c k Q)
          -∗ wpc c (prologueProg xM cwM ccwM (Memref.isWhole_whole _) (Memref.isWhole_whole _) smM dL dR k) Q) := by
  obtain ⟨rfl, rfl⟩ := hd
  unfold entryRes prologueProg
  iintro ⟨#Hc, ⟨Ht0, Ht1, Hp, Hcr⟩, HO, Hx, Ha0, Ha1, Hb0, Hb1, Hsm, Hf⟩ Hk
  iapply (wp_sig (m := m) (K := K) (Ks := Ks) c (lft c) (.entry 0) rfl rfl sem_bar (l := .entry 1 :: l)) $$ [HO Ht0 Ha1 Hf]
  · isplitr; · iexact Hc
    isplitl [HO]; · iexact HO
    isplitl [Ht0]; · iexact Ht0
    rw [show pay m (lft c) (dutyCell (.entry 0)) (dutyNum (.entry 0)) = iprop(free cwM (rgt (lft c)) 1 ∗ fwd (lft c) 1) from rfl, rgt_lft]
    isplitl [Ha1] <;> iassumption
  iintro HO
  iapply (wp_sig (m := m) (K := K) (Ks := Ks) c (rgt c) (.entry 1) rfl rfl sem_bar (l := l)) $$ [HO Ht1 Hb1]
  · isplitr; · iexact Hc
    isplitl [HO]; · iexact HO
    isplitl [Ht1]; · iexact Ht1
    rw [show pay m (rgt c) (dutyCell (.entry 1)) (dutyNum (.entry 1)) = free ccwM (lft (rgt c)) 1 from rfl, lft_rgt]
    iexact Hb1
  iintro HO
  iapply (wp_take (m := m) (K := K) (Ks := Ks) c (.inr 2) 2 1 l rfl (by omega) hl sem_bar
    (fun Kt => wpE_semWait_eq 𝒱₀ (c : Thread nD τ) none Set.univ Kt)) $$ [Hcr HO Hp]
  · isplitr; · iexact Hc
    isplitl [Hcr]; · iexact Hcr
    isplitl [HO] <;> iassumption
  iintro ⟨HO, Hz, Hpay⟩
  ihave Hpay2 := (pay_entry c) $$ Hpay
  icases Hpay2 with ⟨HfL, HfR, Hfw⟩
  iapply (wp_chunks m c f8) $$ [Hx Ha0 Hb0 Hsm]
  · isplitl [Hx]; · iexact Hx
    isplitl [Ha0]; · iexact Ha0
    isplitl [Hb0]; · iexact Hb0
    iexact Hsm
  iintro ⟨Hx, Ha, Hb, Hsm⟩
  iapply Hk
  isplitl [HO]; · iexact HO
  isplitl [Hx]; · iexact Hx
  isplitl [Ha Hb]
  · unfold chunks
    isplitl [Ha]
    · iexact Ha
    · iexact Hb
  isplitl [Hsm]; · iexact Hsm
  isplitl [HfR]; · iexact HfR
  isplitl [HfL]; · iexact HfL
  isplitl [Hfw] <;> iassumption

set_option maxHeartbeats 8000000 in
set_option maxRecDepth 4000 in
/-- The whole body. -/
theorem wp_body (c : Dev nD) (f : (cc0_stg2_0 : Ref sig .tc).ty.Contents (Elt F)) (f8 : (cc0_scratch8 : Ref sig .tc).ty.Contents (Elt F))
    (f9 : (cc0_scratch9 : Ref sig .tc).ty.Contents (Elt F)) {Q : PUnit → sProp 𝕄} :
    iprop(ctx m K Ks ∗ share c ∗ owesL c dues ∗ xPts m c ∗ wPts m c ∗ oPts c f ∗ free cwM c 0 ∗ free cwM c 1 ∗ free ccwM c 0 ∗ free ccwM c 1
        ∗ (smM.view.loc (c : Thread nD τ) ↦[Finset.univ]{fullShare} f8) ∗ (srcM.view.loc (c : Thread nD τ) ↦[Finset.univ]{fullShare} f9)
        ∗ rowFree c c ∗ fwd (lft c) 1)
      ⊢ iprop(((xPts m c ∗ wPts m c ∗ oPts c (outFrom m c f) ∗ (free cwM c 0 ∗ free cwM c 1) ∗ (free ccwM c 0 ∗ free ccwM c 1)
            ∗ smPts c (amaxAt m c 16) ∗ srcPts m c fullShare ∗ tblPts m c ∗ sems c ∗ owesL c []) -∗ Q ⟨⟩)
          -∗ wpc c (bodyProg xM wM oM cwM ccwM (Memref.isWhole_whole _) (Memref.isWhole_whole _) cc0_scratch2 cc0_scratch3 cc0_scratch4 cc0_scratch5
              cc0_scratch6 cc0_scratch7 smM srcM (Memref.isWhole_whole _) tblM cc0_scratch11 cc0_scratch12 c) Q) := by
  unfold share sems bodyProg
  rw [bigSep_fin7 (hopTok c), bigSep_fin7 (landRes c), bigSep_fin6 (relRes c), bigSep_fin6 (takeRes c), bigSep_fin7 (sentSems c), bigSep_fin7 (landSems c)]
  iintro ⟨#Hc, ⟨Hen, ⟨Ht0, Ht1, Ht2, Ht3, Ht4, Ht5, Ht6⟩, ⟨Hl0, Hl1, Hl2, Hl3, Hl4, Hl5, Hl6⟩, ⟨Hr0, Hr1, Hr2, Hr3, Hr4, Hr5⟩, ⟨Hk0, Hk1, Hk2, Hk3, Hk4, Hk5⟩, Hs1, Hs2, Hmt, Hmc⟩, HO, Hx, Hw, Ho, Ha0, Ha1, Hb0, Hb1, Hsm, Hsrc, Hrow, Hfw⟩ Hq
  iapply (wp_prologue (m := m) (K := K) (Ks := Ks) c _ _ (dev_entry c) f8 (duesHops 7) (by decide +kernel)) $$ [Hen HO Hx Ha0 Ha1 Hb0 Hb1 Hsm Hfw]
  · isplitr; · iexact Hc
    isplitl [Hen]; · iexact Hen
    isplitl [HO]; · iexact HO
    isplitl [Hx]; · iexact Hx
    isplitl [Ha0]; · iexact Ha0
    isplitl [Ha1]; · iexact Ha1
    isplitl [Hb0]; · iexact Hb0
    isplitl [Hb1]; · iexact Hb1
    isplitl [Hsm] <;> iassumption
  iintro ⟨HO, Hx, Hch, Hsm, Hfa, Hfb, Hfw, Hzb⟩
  ihave Hwk : (work m c f 0) $$ [Hw Ho Hsm]
  · unfold work
    isplitl [Hw]; · iexact Hw
    isplitl [Ho]
    · iexact Ho
    · iexact Hsm
  ihave #Hu1 : (up c true 0) $$ []
  · iapply (up_zero c true); iempintro
  ihave #Hv1 : (up c false 0) $$ []
  · iapply (up_zero c false); iempintro
  iapply (wp_step (m := m) (K := K) (Ks := Ks) c 0 0 rfl _ _ _ _ _ _ _ _ _ _ rfl rfl (dev_hop0 c) (off_hop0 c) f (duesHops 6) (by decide +kernel))
    $$ [Hch Hfw Hwk Hfa Hfb Ht0 Hl0 Hr0 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht0]; · iexact Ht0
    isplitl [Hl0]; · iexact Hl0
    isplitl [Hr0]; · iexact Hr0
    isplitr; · iexact Hu1
    isplitr; · iexact Hv1
    iexact HO
  iintro ⟨Hch, Hfw, Hwk, Hrw0, Hy0, Hz0, #Hu2, #Hv2, HO⟩
  iapply (wp_credits (m := m) (K := K) (Ks := Ks) c 0 (duesHops 6) (by decide +kernel)) $$ [Hs1 Hs2 Hk0 HO]
  · isplitr; · iexact Hc
    isplitl [Hs1]; · iexact Hs1
    isplitl [Hs2]; · iexact Hs2
    isplitl [Hk0] <;> iassumption
  iintro ⟨HO, Hs1, Hs2, Hfa, Hfb⟩
  iapply (wp_step (m := m) (K := K) (Ks := Ks) c 1 1 rfl _ _ _ _ _ _ _ _ _ _ rfl rfl (dev_hop1 c) (off_hop1 c) f (duesHops 5) (by decide +kernel))
    $$ [Hch Hfw Hwk Hfa Hfb Ht1 Hl1 Hr1 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht1]; · iexact Ht1
    isplitl [Hl1]; · iexact Hl1
    isplitl [Hr1]; · iexact Hr1
    isplitr; · iexact Hu2
    isplitr; · iexact Hv2
    iexact HO
  iintro ⟨Hch, Hfw, Hwk, Hrw1, Hy1, Hz1, #Hu3, #Hv3, HO⟩
  iapply (wp_credits (m := m) (K := K) (Ks := Ks) c 1 (duesHops 5) (by decide +kernel)) $$ [Hs1 Hs2 Hk1 HO]
  · isplitr; · iexact Hc
    isplitl [Hs1]; · iexact Hs1
    isplitl [Hs2]; · iexact Hs2
    isplitl [Hk1] <;> iassumption
  iintro ⟨HO, Hs1, Hs2, Hfa, Hfb⟩
  iapply (wp_step (m := m) (K := K) (Ks := Ks) c 2 2 rfl _ _ _ _ _ _ _ _ _ _ rfl rfl (dev_hop2 c) (off_hop2 c) f (duesHops 4) (by decide +kernel))
    $$ [Hch Hfw Hwk Hfa Hfb Ht2 Hl2 Hr2 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht2]; · iexact Ht2
    isplitl [Hl2]; · iexact Hl2
    isplitl [Hr2]; · iexact Hr2
    isplitr; · iexact Hu3
    isplitr; · iexact Hv3
    iexact HO
  iintro ⟨Hch, Hfw, Hwk, Hrw2, Hy2, Hz2, #Hu4, #Hv4, HO⟩
  iapply (wp_credits (m := m) (K := K) (Ks := Ks) c 2 (duesHops 4) (by decide +kernel)) $$ [Hs1 Hs2 Hk2 HO]
  · isplitr; · iexact Hc
    isplitl [Hs1]; · iexact Hs1
    isplitl [Hs2]; · iexact Hs2
    isplitl [Hk2] <;> iassumption
  iintro ⟨HO, Hs1, Hs2, Hfa, Hfb⟩
  iapply (wp_step (m := m) (K := K) (Ks := Ks) c 3 3 rfl _ _ _ _ _ _ _ _ _ _ rfl rfl (dev_hop3 c) (off_hop3 c) f (duesHops 3) (by decide +kernel))
    $$ [Hch Hfw Hwk Hfa Hfb Ht3 Hl3 Hr3 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht3]; · iexact Ht3
    isplitl [Hl3]; · iexact Hl3
    isplitl [Hr3]; · iexact Hr3
    isplitr; · iexact Hu4
    isplitr; · iexact Hv4
    iexact HO
  iintro ⟨Hch, Hfw, Hwk, Hrw3, Hy3, Hz3, #Hu5, #Hv5, HO⟩
  iapply (wp_credits (m := m) (K := K) (Ks := Ks) c 3 (duesHops 3) (by decide +kernel)) $$ [Hs1 Hs2 Hk3 HO]
  · isplitr; · iexact Hc
    isplitl [Hs1]; · iexact Hs1
    isplitl [Hs2]; · iexact Hs2
    isplitl [Hk3] <;> iassumption
  iintro ⟨HO, Hs1, Hs2, Hfa, Hfb⟩
  iapply (wp_step (m := m) (K := K) (Ks := Ks) c 4 4 rfl _ _ _ _ _ _ _ _ _ _ rfl rfl (dev_hop4 c) (off_hop4 c) f (duesHops 2) (by decide +kernel))
    $$ [Hch Hfw Hwk Hfa Hfb Ht4 Hl4 Hr4 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht4]; · iexact Ht4
    isplitl [Hl4]; · iexact Hl4
    isplitl [Hr4]; · iexact Hr4
    isplitr; · iexact Hu5
    isplitr; · iexact Hv5
    iexact HO
  iintro ⟨Hch, Hfw, Hwk, Hrw4, Hy4, Hz4, #Hu6, #Hv6, HO⟩
  iapply (wp_credits (m := m) (K := K) (Ks := Ks) c 4 (duesHops 2) (by decide +kernel)) $$ [Hs1 Hs2 Hk4 HO]
  · isplitr; · iexact Hc
    isplitl [Hs1]; · iexact Hs1
    isplitl [Hs2]; · iexact Hs2
    isplitl [Hk4] <;> iassumption
  iintro ⟨HO, Hs1, Hs2, Hfa, Hfb⟩
  iapply (wp_step (m := m) (K := K) (Ks := Ks) c 5 5 rfl _ _ _ _ _ _ _ _ _ _ rfl rfl (dev_hop5 c) (off_hop5 c) f (duesHops 1) (by decide +kernel))
    $$ [Hch Hfw Hwk Hfa Hfb Ht5 Hl5 Hr5 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht5]; · iexact Ht5
    isplitl [Hl5]; · iexact Hl5
    isplitl [Hr5]; · iexact Hr5
    isplitr; · iexact Hu6
    isplitr; · iexact Hv6
    iexact HO
  iintro ⟨Hch, Hfw, Hwk, Hrw5, Hy5, Hz5, #Hu7, #Hv7, HO⟩
  iapply (wp_credits_last (m := m) (K := K) (Ks := Ks) c (duesHops 1) (by decide +kernel)) $$ [Hs1 Hs2 Hk5 HO]
  · isplitr; · iexact Hc
    isplitl [Hs1]; · iexact Hs1
    isplitl [Hs2]; · iexact Hs2
    isplitl [Hk5] <;> iassumption
  iintro ⟨HO, Hs1, Hs2, Hfa, Hfb⟩
  iapply (wp_hop (m := m) (K := K) (Ks := Ks) c 6 _ _ _ _ _ _ _ _ rfl rfl (dev_hop6 c).1 (dev_hop6 c).2 (off_hop6 c).1 (off_hop6 c).2 f duesMax (by decide +kernel))
    $$ [Hch Hfw Hwk Hfa Hfb Ht6 HO]
  · isplitr; · iexact Hc
    isplitl [Hch]; · iexact Hch
    isplitl [Hfw]; · iexact Hfw
    isplitl [Hwk]; · iexact Hwk
    isplitl [Hfa]; · iexact Hfa
    isplitl [Hfb]; · iexact Hfb
    isplitl [Ht6]; · iexact Ht6
    iexact HO
  iintro ⟨Hch, Hwk, Hrw6, Hy6, HO⟩
  unfold landRes
  icases Hl6 with ⟨Hc1, Hc3, Hp1, Hp3⟩
  iapply (wp_landed (m := m) (K := K) (Ks := Ks) c 6 _ _ duesMax (by decide +kernel)) $$ [Hc1 Hc3 HO Hp1 Hp3]
  · isplitr; · iexact Hc
    isplitl [Hc1]; · iexact Hc1
    isplitl [Hc3]; · iexact Hc3
    isplitl [HO]; · iexact HO
    isplitl [Hp1] <;> iassumption
  iintro ⟨Ha, Hb, -, HO, Hz1', Hz3'⟩
  iapply (wp_block (m := m) c 14 cwM 1 fullShare _ _ _ (chunkAt_even m c 7) (off_last c).1 f) $$ [Ha Hwk]
  · isplitl [Ha]; · iexact Ha
    iexact Hwk
  iintro ⟨Ha, Hwk⟩
  iapply (wp_block (m := m) c 15 ccwM 1 fullShare _ _ _ (chunkAt_odd m c 7) (off_last c).2 f) $$ [Hb Hwk]
  · isplitl [Hb]; · iexact Hb
    iexact Hwk
  iintro ⟨Hb, Hwk⟩
  unfold work
  icases Hwk with ⟨Hw, Ho, Hsm⟩
  ihave Hrows : (bigSep Finset.univ (maxRow' (F := F) c)) $$ [Hrw0 Hrw1 Hrw2 Hrw3 Hrw4 Hrw5 Hrw6]
  · rw [← rows_turn, bigSep_fin7]
    isplitl [Hrw0]; · iexact Hrw0
    isplitl [Hrw1]; · iexact Hrw1
    isplitl [Hrw2]; · iexact Hrw2
    isplitl [Hrw3]; · iexact Hrw3
    isplitl [Hrw4]; · iexact Hrw4
    isplitl [Hrw5]; · iexact Hrw5
    iexact Hrw6
  iapply (wp_max (m := m) (K := K) (Ks := Ks) c f9) $$ [Hsm Hsrc Hrow Hrows Hmt Hmc HO]
  · isplitr; · iexact Hc
    isplitl [Hsm]; · iexact Hsm
    isplitl [Hsrc]; · iexact Hsrc
    isplitl [Hrow]; · iexact Hrow
    isplitl [Hrows]; · iexact Hrows
    isplitl [Hmt]; · iexact Hmt
    isplitl [Hmc] <;> iassumption
  iintro ⟨Hsm, Hsrc, Hrow, Hin, Hmz, HO⟩
  ihave Htbl := (table_join (m := m) c) $$ [Hrow Hin]
  · isplitl [Hrow] <;> iassumption
  iapply (wp_quants m c (oM.view.writes (Elt F) f (pieces m c 16))) $$ [Htbl Ho]
  · isplitl [Htbl]; · iexact Htbl
    iexact Ho
  iintro ⟨Htbl, Ho⟩
  iapply Hq
  unfold chunks
  icases Hch with ⟨Ha0, Hb0⟩
  isplitl [Hx]; · iexact Hx
  isplitl [Hw]; · iexact Hw
  isplitl [Ho]; · iexact Ho
  isplitl [Ha Ha0]
  · isplitl [Ha0]
    · iapply (held_free cwM c 0 _); iexact Ha0
    · iapply (held_free cwM c 1 _); iexact Ha
  isplitl [Hb Hb0]
  · isplitl [Hb0]
    · iapply (held_free ccwM c 0 _); iexact Hb0
    · iapply (held_free ccwM c 1 _); iexact Hb
  isplitl [Hsm]; · iexact Hsm
  isplitl [Hsrc]; · iexact Hsrc
  isplitl [Htbl]; · iexact Htbl
  isplitr [HO]
  · isplitl [Hy0 Hy1 Hy2 Hy3 Hy4 Hy5 Hy6]
    · isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      iexact Hy6
    isplitl [Hz0 Hz1 Hz2 Hz3 Hz4 Hz5 Hz1' Hz3']
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      unfold landSems
      isplitl [Hz1'] <;> iassumption
    isplitl [Hmz]; · iexact Hmz
    isplitl [Hs1]; · iexact Hs1
    isplitl [Hs2] <;> iassumption
  iexact HO

end Cert.RingProof
end
-- ==== Proof.Deal.lean ====
/-
  What the launch deals: the launch credit of every cell, each device's share of the protocol, and the invariants.

  * A cell's launch credit is the sum of what all devices owe it; every duty of the list is on exactly one device's cell.
  * The tokens are minted in the arrangement of their payers, so each device is dealt its own duties at once.
  * The handed over slots start "taken": their invariants are made together, after those of the cells.
-/
module

public import proofs.«01_k».proof.Proof.Body
public import proofs.«01_k».proof.Proof.Gen.KernelIdeal.Launch

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ)

/-! ## The launch credit -/

/-- The tally on one cell that a list of duties makes. -/
def due : List Duty → (ℕ →₀ ℕ)
  | [] => 0
  | e :: l => due l + Finsupp.single (dutyLv e) (amtOf (dutyCell e))

theorem dutyDst_bij (e : Duty) : Function.Bijective (dutyDst e) :=
  Finite.injective_iff_bijective.mp (by revert e; decide +kernel)

/-- All devices together owe device `c`'s cell `k` what its duties in the list make. -/
theorem owed_sum (c : Dev nD) (k : Cell) (i : ℕ) : ∀ l : List Duty,
    (∑ d : Dev nD, owedL d l (kcell (c, k)) i) = due (l.filter fun e => decide (dutyCell e = k)) i
  | [] => Finset.sum_eq_zero fun _ _ => rfl
  | e :: l => by
    have hs : (∑ d : Dev nD, owedL d (e :: l) (kcell (c, k)) i)
        = (∑ d : Dev nD, owedL d l (kcell (c, k)) i) + ∑ d : Dev nD, tallyAt (dutyG d e) (dutyLv e) (amtOf (dutyCell e)) (kcell (c, k)) i := by
      rw [← Finset.sum_add_distrib]
      exact Finset.sum_congr rfl fun d _ => rfl
    have hd : (∑ d : Dev nD, tallyAt (dutyG d e) (dutyLv e) (amtOf (dutyCell e)) (kcell (c, k)) i)
        = ∑ x : Dev nD, tallyAt (kcell (x, dutyCell e)) (dutyLv e) (amtOf (dutyCell e)) (kcell (c, k)) i :=
      (dutyDst_bij e).sum_comp fun x => tallyAt (kcell (x, dutyCell e)) (dutyLv e) (amtOf (dutyCell e)) (kcell (c, k)) i
    rw [hs, hd, owed_sum c k i l, List.filter_cons]
    by_cases hk : dutyCell e = k
    · subst hk
      rw [if_pos (by simp), Finset.sum_eq_single c]
      · rw [show ∀ l, due (e :: l) = due l + Finsupp.single (dutyLv e) (amtOf (dutyCell e)) from fun _ => rfl, Finsupp.add_apply]
        congr 1
        exact (congrFun (congrArg DFunLike.coe (Pi.single_eq_same (M := fun _ : GSem nD τ sig => ℕ →₀ ℕ) (kcell (c, dutyCell e)) _)) i)
      · intro x _ hx
        rw [tallyAt_ne_cell (fun h => hx (congrArg Prod.fst (kcell_inj h)).symm)]
        rfl
      · intro h; exact absurd (Finset.mem_univ c) h
    · rw [if_neg (by simpa using hk), Finset.sum_eq_zero, Nat.add_zero]
      intro x _
      rw [tallyAt_ne_cell (fun h => hk (congrArg Prod.snd (kcell_inj h)).symm)]
      rfl

/-- The duties on a cell. -/
def duesOn (k : Cell) : List Duty := dues.filter fun e => decide (dutyCell e = k)

theorem launch_cell (c : Dev nD) (k : Cell) :
    launchCredit (Pipeline.owing (O₀ : Dev nD → CellTallies nD τ sig ℕ)) 0 (kcell (c, k)) = due (duesOn k) := by
  ext i
  rw [Pipeline.launchCredit_owing]
  exact owed_sum c k i dues

/-- What a device's launch credit is worth on its cells. -/
def creds (c : Dev nD) : sProp 𝕄 := bigSep Finset.univ fun k : Cell => cred (tallyOn (kcell (c, k)) (due (duesOn k)))

theorem creds_intro (c : Dev nD) : (Pipeline.launchCred O₀ c : sProp 𝕄) ⊢ creds c := by
  unfold Pipeline.launchCred creds
  refine (bigSep_subset (Finset.subset_univ (Finset.univ.image csem))).trans ?_
  rw [bigSep_image_of_injOn csem_inj.injOn]
  exact Entails.of_eq (bigSep_congr fun k _ => by rw [show ((c.tc : Thread nD τ), csem k) = kcell (c, k) from rfl, launch_cell])

theorem cred_due (g : GSem nD τ sig) (e : Duty) (l : List Duty) :
    (cred (tallyOn g (due (e :: l))) : sProp 𝕄) ⊢ iprop(cred (tallyAt g (dutyLv e) (amtOf (dutyCell e))) ∗ cred (tallyOn g (due l))) := by
  rw [show due (e :: l) = due l + Finsupp.single (dutyLv e) (amtOf (dutyCell e)) from rfl, tallyOn_add]
  refine (cred_add _ _).1.trans ?_
  iintro ⟨H, H'⟩
  isplitl [H']; · iexact H'
  iexact H

theorem duesOn_cw (h : Fin 7) : duesOn (.inl (h, 1)) = [.xfer h 1] := by revert h; decide +kernel
theorem duesOn_ccw (h : Fin 7) : duesOn (.inl (h, 3)) = [.xfer h 3] := by revert h; decide +kernel
theorem duesOn_max (h : Fin 7) : duesOn (.inl (h, 5)) = [.xfer h 5] := by revert h; decide +kernel
theorem duesOn_cred (b : Fin 2) : duesOn (.inr (if b = 0 then 0 else 1)) = [.credit 0 b, .credit 1 b, .credit 2 b, .credit 3 b, .credit 4 b, .credit 5 b] := by
  revert b; decide +kernel
theorem duesOn_entry : duesOn (.inr 2) = [.entry 0, .entry 1] := by decide +kernel

/-- The credits on one credit cell, hop by hop. -/
theorem creds_hop (c : Dev nD) (t : Bool) :
    (cred (tallyOn (kcell (c, credK t)) (due (duesOn (credK t)))) : sProp 𝕄)
      ⊢ bigSep Finset.univ fun j : Fin 6 => cred (tallyAt (kcell (c, credK t)) (2 * j.val + 3) 1) := by
  obtain ⟨b, hb⟩ : ∃ b : Fin 2, duesOn (credK t) = [.credit 0 b, .credit 1 b, .credit 2 b, .credit 3 b, .credit 4 b, .credit 5 b]
      ∧ ∀ j : Fin 6, amtOf (dutyCell (.credit j b)) = 1 ∧ dutyLv (.credit j b) = 2 * j.val + 3 := by
    cases t
    · exact ⟨1, duesOn_cred 1, fun j => ⟨rfl, rfl⟩⟩
    · exact ⟨0, duesOn_cred 0, fun j => ⟨rfl, rfl⟩⟩
  rw [hb.1, bigSep_fin6]
  have hh (j : Fin 6) (l : List Duty) : (cred (tallyOn (kcell (c, credK t)) (due (.credit j b :: l))) : sProp 𝕄)
      ⊢ iprop(cred (tallyAt (kcell (c, credK t)) (2 * j.val + 3) 1) ∗ cred (tallyOn (kcell (c, credK t)) (due l))) := by
    have := cred_due (F := F) (kcell (c, credK t)) (.credit j b) l
    rw [(hb.2 j).1, (hb.2 j).2] at this
    exact this
  iintro H
  ihave H := (hh 0 _) $$ H
  icases H with ⟨H0, H⟩
  ihave H := (hh 1 _) $$ H
  icases H with ⟨H1, H⟩
  ihave H := (hh 2 _) $$ H
  icases H with ⟨H2, H⟩
  ihave H := (hh 3 _) $$ H
  icases H with ⟨H3, H⟩
  ihave H := (hh 4 _) $$ H
  icases H with ⟨H4, H⟩
  ihave H := (hh 5 _) $$ H
  icases H with ⟨H5, -⟩
  isplitl [H0]; · iexact H0
  isplitl [H1]; · iexact H1
  isplitl [H2]; · iexact H2
  isplitl [H3]; · iexact H3
  isplitl [H4]; · iexact H4
  iexact H5

theorem creds_entry (c : Dev nD) :
    (cred (tallyOn (kcell (c, .inr 2)) (due (duesOn (.inr 2)))) : sProp 𝕄) ⊢ cred (tallyAt (kcell (c, .inr 2)) 1 2) := by
  refine Entails.of_eq ?_
  rw [duesOn_entry]
  unfold tallyAt
  congr 2
  show ((0 : ℕ →₀ ℕ) + Finsupp.single 1 1) + Finsupp.single 1 1 = Finsupp.single 1 2
  rw [zero_add, ← Finsupp.single_add]

theorem creds_one (g : GSem nD τ sig) (e : Duty) : (cred (tallyOn g (due [e])) : sProp 𝕄) ⊢ cred (tallyAt g (dutyLv e) (amtOf (dutyCell e))) := by
  refine Entails.of_eq ?_
  unfold tallyAt
  congr 2
  exact zero_add _

/-! ## A device's share -/

/-- A family over the cells, by hop and kind; -/
theorem bigSep_cell (Φ : Cell → sProp 𝕄) :
    bigSep Finset.univ Φ
      = iprop((bigSep Finset.univ fun h : Fin 7 => iprop(Φ (.inl (h, 0)) ∗ Φ (.inl (h, 1)) ∗ Φ (.inl (h, 2)) ∗ Φ (.inl (h, 3)) ∗ Φ (.inl (h, 4)) ∗ Φ (.inl (h, 5))))
        ∗ Φ (.inr 0) ∗ Φ (.inr 1) ∗ Φ (.inr 2)) := by
  rw [bigSep_univ_sum, bigSep_univ_prod, bigSep_univ_eq_bigSepL [0, 1, 2] (by decide) (by decide) (fun b : Fin 3 => Φ (.inr b))]
  simp only [bigSep_fin6]
  rfl
/-- over the duties too. -/
theorem bigSep_duty (Φ : Duty → sProp 𝕄) :
    bigSep Finset.univ Φ
      = iprop((bigSep Finset.univ fun h : Fin 7 => iprop(Φ (.xfer h 0) ∗ Φ (.xfer h 1) ∗ Φ (.xfer h 2) ∗ Φ (.xfer h 3) ∗ Φ (.xfer h 4) ∗ Φ (.xfer h 5)))
        ∗ (bigSep Finset.univ fun j : Fin 6 => iprop(Φ (.credit j 0) ∗ Φ (.credit j 1))) ∗ Φ (.entry 0) ∗ Φ (.entry 1)) := by
  rw [bigSep_univ_sum, bigSep_univ_sum, bigSep_univ_prod, bigSep_univ_prod, bigSep_univ_two (fun b : Fin 2 => Φ (.inr (.inr b)))]
  simp only [bigSep_fin6, bigSep_univ_two]
  rfl

/-- The counts of a device's own slots and the tokens to write its neighbours'. -/
def readers (c : Dev nD) : sProp 𝕄 :=
  bigSep Finset.univ fun j : Fin 6 => iprop(Release.readerAt ES (c, true, j.val + 1) 0 ∗ Release.readerAt ES (c, false, j.val + 1) 0)
def writers (c : Dev nD) : sProp 𝕄 :=
  bigSep Finset.univ fun j : Fin 6 => iprop(Release.writeTok ES (rgt c, true, j.val + 1) 1 ∗ Release.writeTok ES (lft c, false, j.val + 1) 1)

/-- What the launch deals a device for itself. -/
def linear (c : Dev nD) : sProp 𝕄 :=
  iprop((bigSep Finset.univ fun k : Cell => atPos ER (kcell (c, k)) 0 ∅ 0) ∗ (bigSep Finset.univ fun e : Duty => tok c e) ∗ readers c ∗ writers c)

theorem credSt_zero (c : Dev nD) (t : Bool) : (atPos ER (kcell (c, credK t)) 0 ∅ 0 : sProp 𝕄) ⊢ credSt c t 0 := by
  unfold credSt
  iintro H
  iexists ∅
  isplitr; · ipureintro; exact ⟨Finset.empty_subset _, by decide⟩
  isplitl [H]; · iexact H
  rw [bigSep_empty]; iempintro

theorem share_intro (c : Dev nD) : iprop(linear c ∗ creds c) ⊢ (share c : sProp 𝕄) := by
  unfold linear creds readers writers
  rw [bigSep_cell, bigSep_duty, bigSep_cell (fun k : Cell => (cred (tallyOn (kcell (c, k)) (due (duesOn k))) : sProp 𝕄))]
  have hhop : iprop((bigSep Finset.univ fun h : Fin 7 => iprop(atPos ER (kcell (c, .inl (h, 0))) 0 ∅ 0 ∗ atPos ER (kcell (c, .inl (h, 1))) 0 ∅ 0
          ∗ atPos ER (kcell (c, .inl (h, 2))) 0 ∅ 0 ∗ atPos ER (kcell (c, .inl (h, 3))) 0 ∅ 0 ∗ atPos ER (kcell (c, .inl (h, 4))) 0 ∅ 0
          ∗ atPos ER (kcell (c, .inl (h, 5))) 0 ∅ 0))
        ∗ (bigSep Finset.univ fun h : Fin 7 => iprop(tok c (.xfer h 0) ∗ tok c (.xfer h 1) ∗ tok c (.xfer h 2) ∗ tok c (.xfer h 3) ∗ tok c (.xfer h 4) ∗ tok c (.xfer h 5)))
        ∗ (bigSep Finset.univ fun h : Fin 7 => iprop(cred (tallyOn (kcell (c, .inl (h, 0))) (due (duesOn (.inl (h, 0)))))
          ∗ cred (tallyOn (kcell (c, .inl (h, 1))) (due (duesOn (.inl (h, 1))))) ∗ cred (tallyOn (kcell (c, .inl (h, 2))) (due (duesOn (.inl (h, 2)))))
          ∗ cred (tallyOn (kcell (c, .inl (h, 3))) (due (duesOn (.inl (h, 3))))) ∗ cred (tallyOn (kcell (c, .inl (h, 4))) (due (duesOn (.inl (h, 4)))))
          ∗ cred (tallyOn (kcell (c, .inl (h, 5))) (due (duesOn (.inl (h, 5))))))))
      ⊢ (iprop(bigSep Finset.univ (hopTok c) ∗ bigSep Finset.univ (landRes c) ∗ bigSep Finset.univ (maxTok c) ∗ bigSep Finset.univ (maxCred c)) : sProp 𝕄) := by
    rw [← bigSep_sep', ← bigSep_sep', ← bigSep_sep', ← bigSep_sep', ← bigSep_sep']
    refine bigSep_mono fun h _ => ?_
    rw [duesOn_cw, duesOn_ccw, duesOn_max]
    unfold hopTok landRes maxTok maxCred
    show (_ : sProp 𝕄) ⊢ _
    iintro ⟨⟨Ha0, Ha1, Ha2, Ha3, Ha4, Ha5⟩, ⟨Ht0, Ht1, Ht2, Ht3, Ht4, Ht5⟩, -, Hc1, -, Hc3, -, Hc5⟩
    ihave Hc1 := (creds_one (F := F) _ _) $$ Hc1
    ihave Hc3 := (creds_one (F := F) _ _) $$ Hc3
    ihave Hc5 := (creds_one (F := F) _ _) $$ Hc5
    isplitl [Ht0 Ht1 Ht2 Ht3 Ha0 Ha2]
    · isplitl [Ht0]; · iexact Ht0
      isplitl [Ht1]; · iexact Ht1
      isplitl [Ht2]; · iexact Ht2
      isplitl [Ht3]; · iexact Ht3
      isplitl [Ha0]; · iexact Ha0
      iexact Ha2
    isplitl [Hc1 Hc3 Ha1 Ha3]
    · isplitl [Hc1]; · iexact Hc1
      isplitl [Hc3]; · iexact Hc3
      isplitl [Ha1]; · iexact Ha1
      iexact Ha3
    isplitl [Ht4 Ht5 Ha4 Ha5]
    · isplitl [Ht4]; · iexact Ht4
      isplitl [Ht5]; · iexact Ht5
      isplitl [Ha4]; · iexact Ha4
      iexact Ha5
    iexact Hc5
  have hrel : iprop((bigSep Finset.univ fun j : Fin 6 => iprop(Release.readerAt ES (c, true, j.val + 1) 0 ∗ Release.readerAt ES (c, false, j.val + 1) 0))
        ∗ bigSep Finset.univ fun j : Fin 6 => iprop(tok c (.credit j 0) ∗ tok c (.credit j 1))) ⊢ (bigSep Finset.univ (relRes c) : sProp 𝕄) := by
    rw [← bigSep_sep']
    refine bigSep_mono fun j _ => ?_
    unfold relRes
    show (_ : sProp 𝕄) ⊢ _
    iintro ⟨⟨H1, H2⟩, H3, H4⟩
    isplitl [H1]; · iexact H1
    isplitl [H2]; · iexact H2
    isplitl [H3]; · iexact H3
    iexact H4
  have htake : iprop((bigSep Finset.univ fun j : Fin 6 => iprop(Release.writeTok ES (rgt c, true, j.val + 1) 1 ∗ Release.writeTok ES (lft c, false, j.val + 1) 1))
        ∗ (bigSep Finset.univ fun j : Fin 6 => cred (tallyAt (kcell (c, credK true)) (2 * j.val + 3) 1))
        ∗ bigSep Finset.univ fun j : Fin 6 => cred (tallyAt (kcell (c, credK false)) (2 * j.val + 3) 1)) ⊢ (bigSep Finset.univ (takeRes c) : sProp 𝕄) := by
    rw [← bigSep_sep', ← bigSep_sep']
    refine bigSep_mono fun j _ => ?_
    unfold takeRes
    show (_ : sProp 𝕄) ⊢ _
    iintro ⟨⟨H1, H2⟩, H3, H4⟩
    isplitl [H1]; · iexact H1
    isplitl [H2]; · iexact H2
    isplitl [H3]; · iexact H3
    iexact H4
  unfold share entryRes
  iintro ⟨⟨⟨Hat, Ha0, Ha1, Ha2⟩, ⟨Htk, Htc, He0, He1⟩, HR, HW⟩, Hcr, Hc0, Hc1, Hc2⟩
  ihave H := hhop $$ [Hat Htk Hcr]
  · isplitl [Hat]; · iexact Hat
    isplitl [Htk]; · iexact Htk
    iexact Hcr
  icases H with ⟨Hhop, Hland, Hmt, Hmc⟩
  ihave Hrel := hrel $$ [HR Htc]
  · isplitl [HR]; · iexact HR
    iexact Htc
  ihave Hc0 := (show (cred (tallyOn (kcell (c, .inr 0)) (due (duesOn (.inr 0)))) : sProp 𝕄)
      ⊢ bigSep Finset.univ fun j : Fin 6 => cred (tallyAt (kcell (c, credK true)) (2 * j.val + 3) 1) from creds_hop c true) $$ Hc0
  ihave Hc1 := (show (cred (tallyOn (kcell (c, .inr 1)) (due (duesOn (.inr 1)))) : sProp 𝕄)
      ⊢ bigSep Finset.univ fun j : Fin 6 => cred (tallyAt (kcell (c, credK false)) (2 * j.val + 3) 1) from creds_hop c false) $$ Hc1
  ihave Hc2 := (creds_entry (F := F) c) $$ Hc2
  ihave Htake := htake $$ [HW Hc0 Hc1]
  · isplitl [HW]; · iexact HW
    isplitl [Hc0]; · iexact Hc0
    iexact Hc1
  ihave Ha0 := (show (atPos ER (kcell (c, .inr 0)) 0 ∅ 0 : sProp 𝕄) ⊢ credSt c true 0 from credSt_zero c true) $$ Ha0
  ihave Ha1 := (show (atPos ER (kcell (c, .inr 1)) 0 ∅ 0 : sProp 𝕄) ⊢ credSt c false 0 from credSt_zero c false) $$ Ha1
  isplitl [He0 He1 Ha2 Hc2]
  · isplitl [He0]; · iexact He0
    isplitl [He1]; · iexact He1
    isplitl [Ha2]; · iexact Ha2
    iexact Hc2
  isplitl [Hhop]; · iexact Hhop
  isplitl [Hland]; · iexact Hland
  isplitl [Hrel]; · iexact Hrel
  isplitl [Htake]; · iexact Htake
  isplitl [Ha0]; · iexact Ha0
  isplitl [Ha1]; · iexact Ha1
  isplitl [Hmt]; · iexact Hmt
  iexact Hmc

/-! ## The launch element -/

def ringCells : Finset (GSem nD τ sig) := Finset.univ.map ⟨kcell, kcell_inj⟩
/-- The token of a duty of a device. -/
def tokOf (x : Dev nD × Duty) : GSem nD τ sig × ℕ × ℕ := (dutyG x.1 x.2, 0, dutyNum x.2)
theorem duty_inj : Function.Injective fun e : Duty => (dutyCell e, dutyNum e) := by decide +kernel
theorem tokOf_inj : Function.Injective tokOf := by
  rintro ⟨c, e⟩ ⟨c', e'⟩ h
  have h1 := kcell_inj (congrArg Prod.fst h)
  have h2 : e = e' := duty_inj (Prod.ext (congrArg Prod.snd h1) (congrArg (fun x : GSem nD τ sig × ℕ × ℕ => x.2.2) h))
  subst h2
  have h3 : c = c' := (dutyDst_bij e).1 (congrArg Prod.fst h1)
  rw [h3]
def ringToks : Finset (GSem nD τ sig × ℕ × ℕ) := Finset.univ.map ⟨tokOf, tokOf_inj⟩

def u₀ : UU :=
  (initOf (Pipeline.cells cfgs cellOf_inj) (Pipeline.launchToks cfgs cellOf_inj), (initOf ringCells ringToks, Release.initSlots keys 1))

/-- What the launch element deals device `c`. -/
def G (c : Dev nD) : sProp 𝕄 :=
  iprop((bigSep Finset.univ fun k : Cell => roundState ER (ringRd m) (kcell (c, k)) 0)
    ∗ (bigSep Finset.univ fun k : Cell => reached ER (kcell (c, k)) 0)
    ∗ (bigSep Finset.univ fun k : Cell => atPos ER (kcell (c, k)) 0 ∅ 0) ∗ (bigSep Finset.univ fun e : Duty => tok c e)
    ∗ if c = 0 then BI.own (ES (Release.initSlots keys 1)) else iprop(emp))

/-- A resource given to device 0 alone. -/
theorem at_zero (P : sProp 𝕄) : (bigSep Finset.univ fun c : Dev nD => if c = 0 then P else iprop(emp)) ⊣⊢ P := by
  rw [bigSep_univ_at _ (0 : Dev nD), if_pos rfl,
    bigSep_congr (Ψ := fun _ => (iprop(emp) : sProp 𝕄)) (fun c hc => if_neg (Finset.ne_of_mem_erase hc))]
  constructor
  · iintro ⟨H, -⟩; iexact H
  · iintro H
    isplitl [H]; · iexact H
    refine Entails.of_eq ?_
    exact (bigSep_emp_const _).symm

theorem fund_ring : (BI.own (embR (initOf ringCells ringToks, Release.initSlots keys 1)) : sProp 𝕄) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun e : Duty => tok c e := by
    unfold ringToks; rw [bigSep_map, bigSep_univ_prod]; rfl
  iintro H
  ihave H := (own_pair_emb embR _ _) $$ H
  icases H with ⟨HX, HS⟩
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (at_zero (BI.own (ES (Release.initSlots keys 1)) : sProp 𝕄)).2 $$ HS
  unfold G; simp only [bigSep_sep']
  isplitl [Hst']; · iexact Hst'
  isplitl [Hr']; · iexact Hr'
  isplitl [Hat']; · iexact Hat'
  isplitl [Htok']; · iexact Htok'
  iexact HS'

/-! ## The semaphores of the launch -/

/-- The kernel's own semaphores; -/
def osem : (Fin 7 × Fin 6) ⊕ Fin 2 → SemLoc sig
  | .inl x => csem (.inl x)
  | .inr b => csem (.inr b.castSucc)
theorem ownSemFacts : Pipeline.OwnSemFacts cfg0.spec osem := by decide +kernel

theorem ownSems0_eq (c : Dev nD) : (Pipeline.ownSems0 (Ix := ℕ) (Name := ℕ) (U := UU) (Lvl := ℕ) (Val := Elt F) (τ := τ) osem c : sProp 𝕄)
    = iprop((bigSep Finset.univ fun x : Fin 7 × Fin 6 => semVal (kcell (c, .inl x)) 0) ∗ semVal (kcell (c, .inr 0)) 0 ∗ semVal (kcell (c, .inr 1)) 0) := by
  unfold Pipeline.ownSems0
  rw [bigSep_univ_sum, bigSep_univ_two]; rfl
/-- the barrier semaphore is the one that outlives it. -/
theorem unscopedSems0_eq (c : Dev nD) : (unscopedSems0 c : sProp 𝕄) = semVal (kcell (c, .inr 2)) 0 := by
  unfold unscopedSems0; rw [bigSep_eq_bigSepL_of_eq [csem (.inr 2)] (by decide +kernel) (by decide)]; rfl

theorem sems_all (c : Dev nD) :
    iprop(Pipeline.ownSems0 (Ix := ℕ) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell, bigSep_univ_prod]
  simp only [bigSep_fin6]
  iintro ⟨⟨H, H0, H1⟩, H2⟩
  isplitl [H]; · iexact H
  isplitl [H0]; · iexact H0
  isplitl [H1]; · iexact H1
  iexact H2

theorem sems_exit (c : Dev nD) :
    (sems c : sProp 𝕄) ⊢ iprop(unscopedSems0 c ∗ Pipeline.ownSems0 (Ix := ℕ) (Name := ℕ) (U := UU) (Lvl := ℕ) (Val := Elt F) (τ := τ) osem c) := by
  rw [ownSems0_eq, unscopedSems0_eq, bigSep_univ_prod]
  simp only [bigSep_fin6]
  have h : iprop(bigSep Finset.univ (sentSems c) ∗ bigSep Finset.univ (landSems c) ∗ bigSep Finset.univ (maxSems c))
      ⊢ (bigSep Finset.univ fun h : Fin 7 => iprop(semVal (kcell (c, .inl (h, 0))) 0 ∗ semVal (kcell (c, .inl (h, 1))) 0 ∗ semVal (kcell (c, .inl (h, 2))) 0
        ∗ semVal (kcell (c, .inl (h, 3))) 0 ∗ semVal (kcell (c, .inl (h, 4))) 0 ∗ semVal (kcell (c, .inl (h, 5))) 0) : sProp 𝕄) := by
    rw [← bigSep_sep', ← bigSep_sep']
    refine bigSep_mono fun h _ => ?_
    unfold sentSems landSems maxSems
    show (_ : sProp 𝕄) ⊢ _
    iintro ⟨⟨H0, H2⟩, ⟨H1, H3⟩, H4, H5⟩
    isplitl [H0]; · iexact H0
    isplitl [H1]; · iexact H1
    isplitl [H2]; · iexact H2
    isplitl [H3]; · iexact H3
    isplitl [H4]; · iexact H4
    iexact H5
  unfold sems
  iintro ⟨H1, H2, H3, Hr, Hl, Hb⟩
  isplitl [Hb]; · iexact Hb
  isplitl [H1 H2 H3]
  · iapply h
    isplitl [H1]; · iexact H1
    isplitl [H2]; · iexact H2
    iexact H3
  isplitl [Hr]; · iexact Hr
  iexact Hl

/-! ## The invariants -/

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (ringRd m) κ (kcell (c, k))))
          ∗ (bigSep Finset.univ fun k : Cell => reached ER (kcell (c, k)) 0)
          ∗ (bigSep Finset.univ fun k : Cell => atPos ER (kcell (c, k)) 0 ∅ 0) ∗ (bigSep Finset.univ fun e : Duty => tok c e)
          ∗ if c = 0 then BI.own (ES (Release.initSlots keys 1)) else iprop(emp)) := by
  unfold G
  iintro ⟨Hos, Hus, Hst, Hrest⟩
  ihave Hv := (sems_all (F := F) c) $$ [Hos Hus]
  · isplitl [Hos] <;> iassumption
  imod (show iprop((bigSep Finset.univ fun k : Cell => semVal (kcell (c, k)) 0) ∗ bigSep Finset.univ fun k : Cell => roundState ER (ringRd m) (kcell (c, k)) 0)
      ⊢ (|={Set.univ}=> bigSep Finset.univ fun k : Cell => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  iexact Hrest

/-- What every device knows. -/
def records (K : Dev nD × Cell → ℕ) (Ks : Key → ℕ) : sProp 𝕄 :=
  iprop((bigSep Finset.univ fun ck : Dev nD × Cell => iprop(cellInv ER (ringRd m) (K ck) (kcell ck) ∗ reached ER (kcell ck) 0))
    ∗ bigSep keys fun k => Release.slotInv ES (Ks k) k (slotOf k))
instance records_persistent (K : Dev nD × Cell → ℕ) (Ks : Key → ℕ) : BI.Persistent (records m K Ks) := by unfold records; infer_instance

/-- What the devices together make of what they are dealt. -/
def G' (c : Dev nD) : sProp 𝕄 := iprop(∃ K, ∃ Ks, records m K Ks ∗ linear c)

theorem readers_deal : (bigSep keys fun k => (Release.readerAt ES k 0 : sProp 𝕄)) ⊢ bigSep Finset.univ readers := by
  have e : keys = Finset.univ.image (fun x : Dev nD × (Fin 6 × Bool) => (x.1, x.2.2, x.2.1.val + 1)) := by decide +kernel
  rw [e, bigSep_image_of_injOn (Function.Injective.injOn (by decide +kernel)), bigSep_univ_prod]
  refine Entails.of_eq (bigSep_congr fun c _ => ?_)
  unfold readers
  rw [bigSep_univ_prod]
  refine bigSep_congr fun j _ => ?_
  exact bigSep_univ_eq_bigSepL [true, false] (by decide) (by decide) _

theorem writers_deal : (bigSep (keys ×ˢ Finset.range 1) fun x => (Release.writeTok ES x.1 (x.2 + 1) : sProp 𝕄)) ⊢ bigSep Finset.univ writers := by
  have e : keys ×ˢ Finset.range 1
      = Finset.univ.image (fun x : Dev nD × (Fin 6 × Bool) => (((if x.2.2 then rgt x.1 else lft x.1, x.2.2, x.2.1.val + 1) : Key), 0)) := by decide +kernel
  rw [e, bigSep_image_of_injOn (Function.Injective.injOn (by decide +kernel)), bigSep_univ_prod]
  refine Entails.of_eq (bigSep_congr fun c _ => ?_)
  unfold writers
  rw [bigSep_univ_prod]
  refine bigSep_congr fun j _ => ?_
  exact bigSep_univ_eq_bigSepL [true, false] (by decide) (by decide) _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (ringRd m) κ (kcell (c, k))))
          ∗ (bigSep Finset.univ fun k : Cell => reached ER (kcell (c, k)) 0)
          ∗ (bigSep Finset.univ fun k : Cell => atPos ER (kcell (c, k)) 0 ∅ 0) ∗ (bigSep Finset.univ fun e : Duty => tok c e)
          ∗ if c = 0 then BI.own (ES (Release.initSlots keys 1)) else iprop(emp)) : sProp 𝕄)
      ⊢ |={Set.univ}=> bigSep Finset.univ (G' m) := by
  simp only [bigSep_sep']
  rw [← bigSep_univ_prod (fun ck : Dev nD × Cell => iprop(∃ κ : ℕ, cellInv ER (ringRd m) κ (kcell ck))),
    ← bigSep_univ_prod (fun ck : Dev nD × Cell => (reached ER (kcell ck) 0 : sProp 𝕄))]
  iintro ⟨HI, #HR, Hat, Htok, HS⟩
  ihave HS := (at_zero (BI.own (ES (Release.initSlots keys 1)) : sProp 𝕄)).1 $$ HS
  ihave HK := (BI.bigSep_exists_pi Finset.univ (fun (ck : Dev nD × Cell) (κ : ℕ) => (cellInv ER (ringRd m) κ (kcell ck) : sProp 𝕄))) $$ HI
  icases HK with ⟨%K, #HI⟩
  imod (Release.slots_init ES keys 1 slotOf ∅) $$ HS with ⟨%Ks, -, #Hsl, Hrd, Hwr⟩
  imodintro
  ihave Hrd := (readers_deal (F := F)) $$ Hrd
  ihave Hwr := (writers_deal (F := F)) $$ Hwr
  iapply (with_persistent (R := records m K Ks) (Φ := linear) fun c _ => (show iprop(records m K Ks ∗ linear c) ⊢ G' m c from by
    unfold G'
    iintro H
    iexists K
    iexists Ks
    iexact H))
  isplitr
  · unfold records
    isplitl
    · rw [bigSep_sep']
      isplitl; · iexact HI
      iexact HR
    · iexact Hsl
  · unfold linear
    simp only [bigSep_sep']
    isplitl [Hat]; · iexact Hat
    isplitl [Htok]; · iexact Htok
    isplitl [Hrd]; · iexact Hrd
    iexact Hwr

/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans BI.fupd_trans)

end Cert.RingProof
end
-- ==== Proof.Out.lean ====
/-
  The result a device ends with does not depend on what its buffer held: the sixteen blocks it stores cover the buffer,
  and each is the part of one product that its rows name.
-/
module

public import proofs.«01_k».proof.Proof.Sched

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ)

/-- The device whose rows row `r` of the result is made of. -/
def devOf (r : ℕ) : Dev nD := ⟨r / 512 % 8, Nat.mod_lt _ (by decide)⟩
/-- The chunk row `r` of the result comes from: the upper or the lower half of that device's rows. -/
def chunkOf (r : ℕ) : Vec F S256x4096 .bf16 := if r % 512 < 256 then top m (devOf r) else bot m (devOf r)
/-- The place of row `r` and column `q` in their block of 256 rows. -/
def blkIx (r q : ℕ) : S256x1024.Idx := fun a =>
  match a with
  | ⟨0, _⟩ => (⟨r % 256, Nat.mod_lt _ (by decide)⟩ : Fin 256)
  | ⟨1, _⟩ => (⟨q % 1024, Nat.mod_lt _ (by decide)⟩ : Fin 1024)
/-- Device `c`'s columns of the product, negatives cut to zero. -/
def prodV (c : Dev nD) : (cc0_stg2_0 : Ref sig .tc).ty.Contents (Elt F) := fun i =>
  blkOf (chunkOf m (i 0).val) (ws m c) (blkIx (i 0).val (i 1).val)
/-- What the result buffer holds at the end. -/
def outV (c : Dev nD) : (cc0_stg2_0 : Ref sig .tc).ty.Contents (Elt F) := quantW (tblV m) (prodV m c) 8

theorem chunkOf_row (c : Dev nD) (n : ℕ) (r : ℕ) (h1 : rowOf c n ≤ r) (h2 : r < rowOf c n + 256) : chunkOf m r = chunkAt m c n := by
  unfold rowOf at h1 h2
  unfold chunkOf chunkAt
  have hl : (lftN (n / 2) c).val < 8 := (lftN (n / 2) c).isLt
  have hr : (rgtN (n / 2) c).val < 8 := (rgtN (n / 2) c).isLt
  by_cases hn : n % 2 = 0
  · rw [if_pos hn] at h1 h2 ⊢
    rw [if_pos (by omega)]
    exact congrArg (top m) (Fin.ext (by show r / 512 % 8 = _; omega))
  · rw [if_neg hn] at h1 h2 ⊢
    rw [if_neg (by omega)]
    exact congrArg (bot m) (Fin.ext (by show r / 512 % 8 = _; omega))

theorem rowOf_mod (c : Dev nD) (n : ℕ) : rowOf c n % 256 = 0 := by unfold rowOf; split <;> omega

theorem piece_at (c : Dev nD) (n : ℕ) (x : S256x1024.Idx) :
    blkOf (chunkAt m c n) (ws m c) x = prodV m c ((rowR ![rowOf c n, 0] (rowOf_inb c n)).emb x) := by
  have h0 : ((rowR ![rowOf c n, 0] (rowOf_inb c n)).emb x 0).val = rowOf c n + (x 0).val := by
    rw [Rect.emb_apply]; show rowOf c n + 1 * (x 0).val = _; omega
  have h1 : ((rowR ![rowOf c n, 0] (rowOf_inb c n)).emb x 1).val = (x 1).val := by
    rw [Rect.emb_apply]; show 0 + 1 * (x 1).val = _; omega
  have hx : (x 0).val < 256 := (x 0).isLt
  have hy : (x 1).val < 1024 := (x 1).isLt
  unfold prodV
  rw [h0, h1, chunkOf_row m c n _ (by omega) (by omega)]
  refine congrArg _ (funext fun a => ?_)
  have hr := rowOf_mod c n
  match a with
  | ⟨0, _⟩ => exact Fin.ext (by show (x 0).val = (rowOf c n + (x 0).val) % 256; omega)
  | ⟨1, _⟩ => exact Fin.ext (by show (x 1).val = (x 1).val % 1024; omega)

theorem pieces_at (c : Dev nD) : ∀ n, ∀ p ∈ pieces m c n, ∀ x : p.1.shape.Idx, p.2 x = prodV m c (p.1.emb x)
  | 0, _, h => absurd h List.not_mem_nil
  | n + 1, p, h => by
    rcases List.mem_cons.mp h with rfl | h
    · exact piece_at m c n
    · exact pieces_at c n p h

theorem pieces_mem (c : Dev nD) (n : ℕ) : ∀ k, n < k →
    (⟨rowR ![rowOf c n, 0] (rowOf_inb c n), blkOf (chunkAt m c n) (ws m c)⟩ : View.Piece (Elt F) S4096x1024 .f32) ∈ pieces m c k
  | 0, h => absurd h (Nat.not_lt_zero n)
  | k + 1, h => by
    rcases Nat.lt_succ_iff_lt_or_eq.mp h with h | rfl
    · exact List.mem_cons_of_mem _ (pieces_mem c n k h)
    · exact List.mem_cons_self

theorem rowOf_onto (c : Dev nD) (b : Fin 16) : ∃ n : Fin 16, rowOf c n.val = 256 * b.val := by revert c b; decide +kernel

theorem covered (c : Dev nD) (i : S4096x1024.Idx) : ∃ n, ∃ h : n < 16, i ∈ (rowR ![rowOf c n, 0] (rowOf_inb c n)).set := by
  have hi : (i 0).val < 4096 := (i 0).isLt
  have hj : (i 1).val < 1024 := (i 1).isLt
  obtain ⟨n, hn⟩ := rowOf_onto c ⟨(i 0).val / 256, by omega⟩
  have hn : rowOf c n.val = 256 * ((i 0).val / 256) := hn
  refine ⟨n.val, n.isLt, Rect.mem_set_unit.mpr fun a => ?_⟩
  match a with
  | ⟨0, _⟩ =>
    refine ⟨?_, ?_⟩
    · show rowOf c n.val ≤ (i 0).val; omega
    · show (i 0).val < rowOf c n.val + 256; omega
  | ⟨1, _⟩ =>
    refine ⟨Nat.zero_le _, ?_⟩
    show (i 1).val < 0 + 1024
    omega

theorem read_oM (g : (cc0_stg2_0 : Ref sig .tc).ty.Contents (Elt F)) : oM.view.read (Elt F) g = g := View.read_whole _ _

/-- The sixteen blocks make the whole product, whatever the buffer held. -/
theorem writes_eq (c : Dev nD) (f : (cc0_stg2_0 : Ref sig .tc).ty.Contents (Elt F)) :
    oM.view.writes (Elt F) f (pieces m c 16) = prodV m c := by
  have hp := pieces_at m c 16
  have hm := fun n => pieces_mem m c n 16
  generalize pieces m c 16 = l at hp hm ⊢
  rw [← read_oM (oM.view.writes (Elt F) f l)]
  funext i
  obtain ⟨n, hn, hi⟩ := covered c i
  exact View.read_writes_apply_of_pieces oM.view f (prodV m c) l hp i ⟨_, hm n hn, hi⟩

theorem outFrom_eq (c : Dev nD) (f : (cc0_stg2_0 : Ref sig .tc).ty.Contents (Elt F)) : outFrom m c f = outV m c := by
  unfold outFrom outV; rw [writes_eq]

end Cert.RingProof
end
-- ==== Proof.Launch.lean ====
/-
  The run of the whole program: every device's body, and the launch that deals each its share.
-/
module

public import proofs.«01_k».proof.Proof.Deal
public import proofs.«01_k».proof.Proof.Out
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The launch state: any memory, every counter zero. -/
def s₀ : MemSt nD τ sig (Elt F) := ⟨m, fun _ => 0, ρ⟩

/-- What a device's body starts from, -/
def start (c : Dev nD) : sProp 𝕄 := iprop(G' m c ∗ creds c ∗ levAts L lv)
def Φ₀ (c : Dev nD) : sProp 𝕄 := iprop(start m c ∗ Pipeline.scopedRest cfg0.spec c)
/-- and what it leaves. -/
def Φ₁ (c : Dev nD) : sProp 𝕄 := iprop(sems c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 (xs m c) ∗ stg c cc0_stg1_0 (ws m c) ∗ stg c cc0_stg2_0 (outV m c))

/-- The four buffers and the two rows that are the body's own, taken apart; -/
theorem rest_split (c : Dev nD) : (Pipeline.scopedRest cfg0.spec c : sProp 𝕄)
    ⊢ iprop(∃ f8 : (cc0_scratch8 : Ref sig .tc).ty.Contents (Elt F), ∃ f9 : (cc0_scratch9 : Ref sig .tc).ty.Contents (Elt F),
        free cwM c 0 ∗ free cwM c 1 ∗ free ccwM c 0 ∗ free ccwM c 1
        ∗ (smM.view.loc (c : Thread nD τ) ↦[Finset.univ]{fullShare} f8) ∗ (srcM.view.loc (c : Thread nD τ) ↦[Finset.univ]{fullShare} f9)
        ∗ rowFree c c ∗ fwd (lft c) 1) := by
  rw [show (Pipeline.scopedRest cfg0.spec c : sProp 𝕄) = Pipeline.scopedRest spec0 c from rfl, scopedRest0_eq]
  iintro ⟨⟨%f0, H0⟩, ⟨%f1, H1⟩, ⟨%f9, H9⟩, ⟨%f10, H10⟩, ⟨%f8, H8⟩⟩
  iexists f8
  iexists f9
  ihave H0 := (cw_split c f0) $$ [H0]
  · iexact H0
  ihave H1 := (ccw_split c f1) $$ [H1]
  · iexact H1
  ihave H10 := (rows_free c f10) $$ [H10]
  · iexact H10
  icases H0 with ⟨Ha, Hb⟩
  icases H1 with ⟨Hc, Hd⟩
  icases H10 with ⟨He, Hf⟩
  isplitl [Ha]; · iexact Ha
  isplitl [Hb]; · iexact Hb
  isplitl [Hc]; · iexact Hc
  isplitl [Hd]; · iexact Hd
  isplitl [H8]; · iexact H8
  isplitl [H9]; · iexact H9
  isplitl [He]; · iexact He
  iexact Hf

/-- and put together again. -/
theorem rest_join (c : Dev nD) (u : F .f32) :
    iprop((free cwM c 0 ∗ free cwM c 1) ∗ (free ccwM c 0 ∗ free ccwM c 1) ∗ smPts c u ∗ srcPts m c fullShare ∗ tblPts m c)
      ⊢ (Pipeline.scopedRest cfg0.spec c : sProp 𝕄) := by
  rw [show (Pipeline.scopedRest cfg0.spec c : sProp 𝕄) = Pipeline.scopedRest spec0 c from rfl, scopedRest0_eq]
  unfold smPts srcPts tblPts
  rw [src_set]
  iintro ⟨H0, H1, H8, H9, H10⟩
  ihave H0 := (cw_join (F := F) c) $$ H0
  ihave H1 := (ccw_join (F := F) c) $$ H1
  icases H0 with ⟨%f0, H0⟩
  icases H1 with ⟨%f1, H1⟩
  isplitl [H0]; · iexists f0; iexact H0
  isplitl [H1]; · iexists f1; iexact H1
  isplitl [H9]; · iexists _; iexact H9
  isplitl [H10]; · iexists _; iexact H10
  iexists _; iexact H8

theorem ctx_intro (K : Dev nD × Cell → ℕ) (Ks : Key → ℕ) : iprop(records m K Ks ∗ levAts L lv) ⊢ ctx m K Ks := by
  unfold records ctx
  iintro ⟨⟨H1, H2⟩, H3⟩
  isplitl [H1]; · iexact H1
  isplitl [H2]; · iexact H2
  iexact H3

set_option maxRecDepth 100000 in
theorem body_obligation (c : Dev nD) : BodyObligation (dats (F := F) m ρ 0 c) (defs₀ (F := F)) 𝒱₀ 0 Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) cwM (Memref.isWhole_whole _) ccwM (Memref.isWhole_whole _)
      cc0_scratch2 cc0_scratch3 cc0_scratch4 cc0_scratch5 cc0_scratch6 cc0_scratch7 smM (Memref.isWhole_whole _) srcM (Memref.isWhole_whole _) tblM (Memref.isWhole_whole _)
      cc0_scratch11 cc0_scratch12) (fun _ => bodyPost m ρ c)
  rw [cc0_body_prog]
  simp only [wp_deviceId]
  unfold bodyPre Φ₀ start G'
  iintro ⟨⟨⟨⟨%K, %Ks, Hrec, Hlin⟩, Hcr, Hlev⟩, Hrest⟩, Ho, ⟨%d0, %g0, %hg0, Hx⟩, ⟨%d1, %g1, %hg1, Hw⟩, ⟨%d2, %g2, %hg2, Hout⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  ihave Hc := (ctx_intro m K Ks) $$ [Hrec Hlev]
  · isplitl [Hrec] <;> iassumption
  ihave Hsh := (share_intro (F := F) c) $$ [Hlin Hcr]
  · isplitl [Hlin] <;> iassumption
  ihave Hrest := (rest_split (F := F) c) $$ Hrest
  icases Hrest with ⟨%f8, %f9, Ha, Hb, Hcc, Hd, H8, H9, He, Hf⟩
  iapply (wp_body (m := m) (K := K) (Ks := Ks) c g2 f8 f9) $$ [Hc Hsh HO Hx Hw Hout Ha Hb Hcc Hd H8 H9 He Hf]
  · isplitl [Hc]; · iexact Hc
    isplitl [Hsh]; · iexact Hsh
    isplitl [HO]
    · unfold owesL; iexists W; iexact HO
    isplitl [Hx]; · unfold xPts; iexact Hx
    isplitl [Hw]; · unfold wPts; iexact Hw
    isplitl [Hout]; · unfold oPts; iexact Hout
    isplitl [Ha]; · iexact Ha
    isplitl [Hb]; · iexact Hb
    isplitl [Hcc]; · iexact Hcc
    isplitl [Hd]; · iexact Hd
    isplitl [H8]; · iexact H8
    isplitl [H9]; · iexact H9
    isplitl [He]; · iexact He
    iexact Hf
  rw [outFrom_eq]
  iintro ⟨Hx, Hw, Hout, Ha, Hcc, H8, H9, H10, Hs, HO⟩
  ihave Hrest := (rest_join m c (amaxAt m c 16)) $$ [Ha Hcc H8 H9 H10]
  · isplitl [Ha]; · iexact Ha
    isplitl [Hcc]; · iexact Hcc
    isplitl [H8]; · iexact H8
    isplitl [H9]; · iexact H9
    iexact H10
  unfold bodyPost Φ₁ Dat.owesAt Pipeline.owesWithin
  rw [show (dats m ρ 0 c).owed t0_0.succ = 0 from rfl]
  isplitl [Hs Hrest]
  · isplitl [Hs]; · iexact Hs
    iexact Hrest
  isplitl [HO]
  · unfold owesL
    icases HO with ⟨%W', HO⟩
    iexists W'
    isplitr; · ipureintro; exact fun _ _ => Or.inl trivial
    iexact HO
  isplitl [Hx]
  · iexists _; isplitr; · ipureintro; rfl
    unfold xPts; iexact Hx
  isplitl [Hw]
  · iexists _; isplitr; · ipureintro; rfl
    unfold wPts; iexact Hw
  iexists _; isplitr; · ipureintro; rfl
  unfold oPts; iexact Hout

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hs, Hr⟩
  ihave Hs := (sems_exit (F := F) c) $$ Hs
  icases Hs with ⟨Hb, Ho⟩
  isplitl [Hb]; · iexact Hb
  isplitl [Ho]; · iexact Ho
  iexact Hr

theorem stage_below (c : Dev nD) (q : DmaSem sig) (O : CellTallies nD τ sig ℕ) (hO : O = O₀ c ∨ O = 0) :
    (levAts L lv : sProp 𝕄) ⊢ MayWait (c : Thread nD τ) (.dma q) 0 O := by
  rcases hO with rfl | rfl
  · exact mayWait c (.dma q) 0 dues (by decide) (by decide +kernel)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    stage_below c _ _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values: every weakly fair execution of the eight devices ends, with each
    device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.RingProof
end
-- ==== Proof.Frames.lean ====
/-
The frames of the two kernels: the run of Launch.lean with the computed values dropped. The run is stated over any float
values, so the kernel as printed and its idealization, whose texts agree, take the same theorem at their own values.
-/
module

public import proofs.«01_k».proof.Proof.Launch
public import proofs.«01_k».proof.Proof.Gen.Kernel
public import proofs.«01_k».proof.Defs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-- The idealized kernel ends with its arguments unchanged and every counter at zero. -/
theorem frame_kernelIdeal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- The two programs have one body table: the tables agree label by label, -/
theorem bodies_eq : @Cert.Kernel.defs₀ F _ _ = @Cert.KernelIdeal.defs₀ F _ _ := by
  unfold Cert.Kernel.defs₀ Cert.KernelIdeal.defs₀
  refine congrArg (@Defs.onTc _ _ _ _ _) ?_
  funext l x
  rcases l with ⟨_ | l, h⟩
  · rfl
  · exact absurd h (Nat.not_lt.2 (Nat.le_add_left _ _))

/-- and so do the tables with the regions. -/
theorem defs_eq : @Cert.Kernel.defs F _ _ = @Cert.KernelIdeal.defs F _ _ :=
  congrArg (Pipeline.defs (Cert.KernelIdeal.pcfgs (F := F))) bodies_eq

/-- So does the kernel as printed. -/
theorem frame_kernel : Cert.quiescent_Kernel := fun m ρ _ => by
  rw [defs_eq]
  exact (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

end Cert.RingProof

end
-- ==== Proof.Peak.lean ====
/-
The maxima over the extended reals. A device's maximum is the least bound of zero and its part of the product, and the largest
entry of the table is the least bound of the eight.
-/
module

public import proofs.«01_k».proof.Proof.Out
public import Idealize.ShloMosaic.PureOps.Ideal.Laws
public import Idealize.ShloMosaic.PureOps.Reduce
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-- A maximum over all entries is at most `b` exactly if every entry is. -/
theorem reduce_le {s : Shape} {axes : List (Fin s.rank)} (src : FVec Ideal s .f32) (h : s.Reduces axes S1) (j : S1.Idx) (b : Ideal .f32) :
    (multiReduction .maximumf axes S1 src 0xFF800000#32 h (.inl rfl) rfl j : EReal) ≤ (b : EReal) ↔ ∀ i, (src i : EReal) ≤ b := by
  have e := multiReduction_maximumf_eq_fold src 0xFF800000#32 h (.inl rfl) rfl j
  refine Iff.trans (iff_of_eq (congrArg (fun x : EReal => x ≤ b) e)) ?_
  refine Iff.trans (Finset.fold_max_le (β := EReal) (b := _) (f := src) (s := _) b) ?_
  have hs : ∀ i : s.Idx, h.drop i = j := fun i => funext fun a => Fin.ext (by
    have h1 := (h.drop i a).isLt
    have h2 := (j a).isLt
    have e : S1.size a = 1 := (by decide : ∀ a : Fin S1.rank, S1.size a = 1) a
    omega)
  have hb : (FloatOps.ofBits (F := Ideal) .f32 0xFF800000#32 : EReal) = ⊥ := by
    show Ideal.ofBits .f32 0xFF800000#32 = ⊥; simp [Ideal.ofBits, Ideal.ieee]
  rw [hb]
  refine ⟨fun H i => H.2 i (Finset.mem_filter.mpr ⟨Finset.mem_univ _, hs i⟩), fun H => ⟨bot_le, fun i _ => H i⟩⟩

/-- The entries of a reshaped array are the entries of the array. -/
theorem cast_le {s t : Shape} (x : s.Idx → EReal) (h : s.ShapeCasts t) (b : EReal) : (∀ i, shapeCast t x h i ≤ b) ↔ ∀ i, x i ≤ b := by
  refine ⟨fun H i => ?_, fun H i => H _⟩
  have := H ((Shape.reshapeEquiv h).symm i)
  unfold shapeCast at this
  rwa [Equiv.apply_symm_apply] at this

/-- The maximum after one more block. -/
theorem maxOf_le (v : Vec Ideal S256x4096 .bf16) (w : Vec Ideal S4096x1024 .f32) (u b : Ideal .f32) :
    (maxOf v w u : EReal) ≤ (b : EReal) ↔ (u : EReal) ≤ b ∧ ∀ i, (blkOf v w i : EReal) ≤ b := by
  refine Iff.trans (max_le_iff (α := EReal)) (and_congr_right fun _ => ?_)
  refine Iff.trans (reduce_le _ _ _ _) ?_
  exact cast_le (blkOf v w) _ b

variable (m : (ℓ : Loc nD τ sig) → Buf (Elt Ideal) ℓ)

theorem amaxAt_le (c : Dev nD) (b : Ideal .f32) : ∀ n, (amaxAt m c n : EReal) ≤ (b : EReal) ↔
    (0 : EReal) ≤ b ∧ ∀ k, k < n → ∀ i, (blkOf (chunkAt m c k) (ws m c) i : EReal) ≤ b
  | 0 => by
    have h0 : (amaxAt m c 0 : EReal) = 0 := by unfold amaxAt; simp
    rw [h0]
    exact ⟨fun h => ⟨h, fun k hk => absurd hk (Nat.not_lt_zero k)⟩, fun h => h.1⟩
  | n + 1 => by
    refine Iff.trans (maxOf_le _ _ _ _) ?_
    rw [amaxAt_le c b n]
    refine ⟨fun ⟨⟨h0, h1⟩, h2⟩ => ⟨h0, fun k hk => ?_⟩, fun ⟨h0, h1⟩ => ⟨⟨h0, fun k hk => h1 k (by omega)⟩, h1 n (by omega)⟩⟩
    rcases Nat.lt_succ_iff_lt_or_eq.mp hk with h | rfl
    · exact h1 k h
    · exact h2

/-- An entry of device `c`'s part of the product, as an extended real. -/
def prodE (c : Dev nD) (i : S4096x1024.Idx) : EReal := prodV m c i

/-- A device's maximum is at most `b` exactly if zero and its part of the product are. -/
theorem amax_le (c : Dev nD) (b : Ideal .f32) : (amaxAt m c 16 : EReal) ≤ (b : EReal) ↔
    (0 : EReal) ≤ b ∧ ∀ i, prodE m c i ≤ b := by
  rw [amaxAt_le]
  refine and_congr_right fun _ => ⟨fun H i => ?_, fun H k hk x => ?_⟩
  · obtain ⟨n, hn, hi⟩ := covered c i
    rw [← Rect.map_emb_univ] at hi
    obtain ⟨x, -, hx⟩ := Finset.mem_map.mp hi
    rw [← hx]
    exact le_of_eq_of_le (α := EReal) (piece_at m c n x).symm (H n hn x)
  · exact le_of_eq_of_le (α := EReal) (piece_at m c k x) (H _)

/-- The largest entry of a table. -/
def peak (u : Vec Ideal S8x128 .f32) : EReal :=
  extractAt ![0, 0, 0] (shapeCast S1x1x1 (multiReduction (F := Ideal) (φ := .f32) .maximumf [1, 2] S1 (shapeCast S1x8x128 u shapeCasts_S8x128_S1x8x128) 0xFF800000#32
    reduces_S1x8x128_S1 (.inl rfl) rfl) shapeCasts_S1_S1x1x1) inpos_S1x1x1_p0_0_0

theorem peak_le (u : Vec Ideal S8x128 .f32) (b : Ideal .f32) : peak u ≤ (b : EReal) ↔ ∀ i, (u i : EReal) ≤ b := by
  refine Iff.trans (reduce_le _ _ _ _) ?_
  exact cast_le u _ b

/-- The largest entry of the table of maxima is at most `b` exactly if zero and all of the product are. -/
theorem peak_tbl_le (b : EReal) : peak (tblV m) ≤ b ↔ 0 ≤ b ∧ ∀ c i, prodE m c i ≤ b := by
  rw [peak_le]
  have hx : ∀ d : Dev nD, ∃ i : S8x128.Idx, i 0 = d := fun d =>
    ⟨fun a => match a with | ⟨0, _⟩ => d | ⟨1, _⟩ => (⟨0, by decide⟩ : Fin 128), rfl⟩
  refine ⟨fun H => ?_, fun H i => (amax_le m _ b).mpr ⟨H.1, H.2 _⟩⟩
  have H' : ∀ d : Dev nD, (0 : EReal) ≤ b ∧ ∀ i, prodE m d i ≤ b := fun d => by
    obtain ⟨i, rfl⟩ := hx d
    exact (amax_le m _ b).mp (H i)
  exact ⟨(H' 0).1, fun c => (H' c).2⟩

end Cert.RingProof

end
-- ==== Proof.Blocks.lean ====
/-
The product over the extended reals, entry by entry: the entry of device c's part at row r and column q is the sum over k of the
whole x at (r, k) times the whole weights at (k, 1024 c + q), cut to zero from below, where the devices hold the blocks of x cut by rows and of the weights cut
by columns.
-/
module

public import proofs.«01_k».proof.Proof.Peak
public import Idealize.ShloMosaic.Lib.MatmulPlain
public import Idealize.ShloMosaic.Lib.Layout
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

open Idealize.ShloMosaic.ValueIdx

theorem dot_plain : dot_S256x4096_S4096x1024_S256x1024_1_0_0_1_n_n = DotDims.plain 256 4096 1024 := rfl

/-- A block of the product, entry by entry. -/
theorem blkOf_apply (v : Vec Ideal S256x4096 .bf16) (w : Vec Ideal S4096x1024 .f32) (r : Fin 256) (q : Fin 1024) :
    (blkOf v w (ix2 r q) : EReal) = max (∑ k : Fin 4096, (v (ix2 r k) : EReal) * (w (ix2 k q) : EReal)) 0 := by
  unfold blkOf
  rw [dot_plain, shapeCast_self]
  have e := Ideal.matmul_plain_apply (M := 256) (K := 4096) (N := 1024) (φ₁ := .f32) (φ₂ := .f32) none (extf (F := Ideal) .f32 v bitsLt_bf16_f32) w
    (constant (F := Ideal) S256x1024 .f32 0x00000000#32) r q
  have z : (FloatOps.ofBits (F := Ideal) .f32 0x00000000#32 : EReal) = 0 := by
    show Ideal.ofBits .f32 0x00000000#32 = 0; simp
  show max (FloatOps.matmul (F := Ideal) (φ₁ := .f32) (φ₂ := .f32) (DotDims.plain 256 4096 1024) none (extf (F := Ideal) .f32 v bitsLt_bf16_f32) w
    (constant (F := Ideal) S256x1024 .f32 0x00000000#32) (ix2 r q) : EReal) (FloatOps.ofBits (F := Ideal) .f32 0x00000000#32) = _
  rw [e, z]
  refine congrArg (fun t : EReal => max t 0) ?_
  show (FloatOps.ofBits (F := Ideal) .f32 0x00000000#32 : EReal) + _ = _
  rw [z, zero_add]
  rfl

variable (m : (ℓ : Loc nD τ sig) → Buf (Elt Ideal) ℓ)

/-- The staged operands are the launched ones. -/
theorem xs_eq (c : Dev nD) (i : S512x4096.Idx) : xs m c i = m ((c : Thread nD τ).loc main_arg0) i := by
  unfold xs
  refine congrArg (m ((c : Thread nD τ).loc main_arg0)) (funext fun a => Fin.ext ?_)
  match a with
  | ⟨0, _⟩ => show 0 * 512 + 1 * (i 0).val = (i 0).val; omega
  | ⟨1, _⟩ => show 0 * 4096 + 1 * (i 1).val = (i 1).val; omega
theorem ws_eq (c : Dev nD) (i : S4096x1024.Idx) : ws m c i = m ((c : Thread nD τ).loc main_arg1) i := by
  unfold ws
  refine congrArg (m ((c : Thread nD τ).loc main_arg1)) (funext fun a => Fin.ext ?_)
  match a with
  | ⟨0, _⟩ => show 0 * 4096 + 1 * (i 0).val = (i 0).val; omega
  | ⟨1, _⟩ => show 0 * 1024 + 1 * (i 1).val = (i 1).val; omega

/-- The two chunks, entry by entry. -/
theorem top_apply (o : Dev nD) (r : Fin 256) (k : Fin 4096) :
    top m o (ix2 r k) = xs m o (ix2 (⟨r.val, by omega⟩ : Fin 512) k) := by
  unfold top k0_pay3
  rw [shapeCast_shapeCast, shapeCast_self]
  refine congrArg (xs m o) (funext fun a => Fin.ext ?_)
  match a with
  | ⟨0, _⟩ => show 0 + 1 * r.val = r.val; omega
  | ⟨1, _⟩ => show 0 + 1 * k.val = k.val; omega
theorem bot_apply (o : Dev nD) (r : Fin 256) (k : Fin 4096) :
    bot m o (ix2 r k) = xs m o (ix2 (⟨256 + r.val, by omega⟩ : Fin 512) k) := by
  unfold bot k0_pay4
  rw [shapeCast_shapeCast, shapeCast_self]
  refine congrArg (xs m o) (funext fun a => Fin.ext ?_)
  match a with
  | ⟨0, _⟩ => show 256 + 1 * r.val = 256 + r.val; omega
  | ⟨1, _⟩ => show 0 + 1 * k.val = k.val; omega

/-- The whole arrays' shapes. -/
abbrev SX : Shape := ⟨2, ![4096, 4096]⟩
abbrev SW : Shape := ⟨2, ![4096, 8192]⟩
/-- An entry of the whole product, cut to zero from below. -/
def entry (X : SX.Idx → EReal) (W : SW.Idx → EReal) (r : Fin 4096) (q : Fin 8192) : EReal :=
  max (∑ k : Fin 4096, X (ix2 r k) * W (ix2 k q)) 0

theorem entry_nonneg (X : SX.Idx → EReal) (W : SW.Idx → EReal) (r : Fin 4096) (q : Fin 8192) : 0 ≤ entry X W r q := le_max_right _ _

theorem tilesX : Layout.Tiles ⟨2, ![512, 4096]⟩ SX 0 8 := by decide
theorem tilesW : Layout.Tiles ⟨2, ![4096, 1024]⟩ SW 1 8 := by decide

/-- The column of the whole arrays that is column `q` of device `c`'s. -/
def colOf (c : Dev nD) (q : Fin 1024) : Fin 8192 := ⟨c.val * 1024 + q.val, by have h : c.val < 8 := c.isLt; omega⟩

variable (X : SX.Idx → EReal) (W : SW.Idx → EReal)

/-- Device `c`'s arrays are its blocks of the whole ones. -/
def Held : Prop := ∀ c : Dev nD,
  (m ((c : Thread nD τ).loc main_arg0) = Layout.block ⟨2, ![512, 4096]⟩ SX 0 8 c X tilesX)
    ∧ m ((c : Thread nD τ).loc main_arg1) = Layout.block ⟨2, ![4096, 1024]⟩ SW 1 8 c W tilesW

variable {m X W}

theorem xs_at (h : Held m X W) (c : Dev nD) (r : Fin 512) (k : Fin 4096) :
    xs m c (ix2 r k) = X (ix2 (⟨c.val * 512 + r.val, by have h : c.val < 8 := c.isLt; omega⟩ : Fin 4096) k) := by
  rw [xs_eq, (h c).1, Layout.block_apply]
  refine congrArg X (funext fun a => Fin.ext ?_)
  match a with
  | ⟨0, _⟩ => rfl
  | ⟨1, _⟩ => rfl
theorem ws_at (h : Held m X W) (c : Dev nD) (k : Fin 4096) (q : Fin 1024) : ws m c (ix2 k q) = W (ix2 k (colOf c q)) := by
  rw [ws_eq, (h c).2, Layout.block_apply]
  refine congrArg W (funext fun a => Fin.ext ?_)
  match a with
  | ⟨0, _⟩ => rfl
  | ⟨1, _⟩ => rfl

/-- A row of the result is made of that row of the whole `x`. -/
theorem chunk_at (h : Held m X W) (r : Fin 4096) (k : Fin 4096) :
    chunkOf m r.val (ix2 (⟨r.val % 256, Nat.mod_lt _ (by decide)⟩ : Fin 256) k) = X (ix2 r k) := by
  unfold chunkOf
  split
  · rw [top_apply, xs_at h]
    refine congrArg (fun a => X (ix2 a k)) (Fin.ext ?_)
    show r.val / 512 % 8 * 512 + r.val % 256 = r.val
    omega
  · rw [bot_apply, xs_at h]
    refine congrArg (fun a => X (ix2 a k)) (Fin.ext ?_)
    show r.val / 512 % 8 * 512 + (256 + r.val % 256) = r.val
    omega

/-- Device `c`'s part of the product is its columns of the whole product. -/
theorem prod_at (h : Held m X W) (c : Dev nD) (r : Fin 4096) (q : Fin 1024) : prodE m c (ix2 r q) = entry X W r (colOf c q) := by
  have e : blkIx r.val q.val = ix2 (⟨r.val % 256, Nat.mod_lt _ (by decide)⟩ : Fin 256) q := by
    funext a; apply Fin.ext
    match a with
    | ⟨0, _⟩ => rfl
    | ⟨1, _⟩ => exact Nat.mod_eq_of_lt q.isLt
  show (blkOf (chunkOf m r.val) (ws m c) (blkIx r.val q.val) : EReal) = _
  rw [e, blkOf_apply]
  unfold entry
  refine congrArg (fun t : EReal => max t 0) (Finset.sum_congr rfl fun k _ => ?_)
  rw [chunk_at h, ws_at h]

end Cert.RingProof

end
-- ==== Proof.Quant.lean ====
/-
The last step of the computation, entry by entry: every entry of a device's product is divided by a scale, cut off
at the largest eight-bit float, and scaled back; and the array the pipeline leaves is the block the body left.
-/
module

public import proofs.«01_k».proof.Proof.Launch
public import proofs.«01_k».proof.Proof.Blocks
public import Idealize.ShloMosaic.Lib.IdealHost

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

open ValueIdx

/-- The largest value the eight-bit float holds, as a number. -/
def top8 : EReal := Ideal.ofBits .f32 0x43E00000#32

/-- One entry quantised and scaled back, at the global maximum `p`. -/
def scaled (p y : EReal) : EReal := min (y * Ideal.div 1 (Ideal.div p top8)) top8 * Ideal.div p top8

theorem pay47_at (u : Vec Ideal S8x128 .f32) (y : Vec Ideal S512x1024 .f32) (i : S512x1024.Idx) :
    k0_pay47 u y i = scaled (peak u) (y i) := by
  have h1 : Ideal.ofBits .f32 0x3F800000#32 = 1 := Ideal.ofBits_one_f32
  have hs : k0_pay45 u = Ideal.div (peak u) top8 := rfl
  have hi : k0_pay46 u = Ideal.div 1 (Ideal.div (peak u) top8) := by
    rw [← hs, ← h1]; rfl
  unfold k0_pay47
  rw [shapeCast_self, hi, hs]
  rfl

/-- A place that a store covers holds what was stored; -/
theorem store_in (f : (cc0_stg2_0 : Ref sig .tc).ty.Contents (Elt Ideal)) (r : Rect S4096x1024) (w : r.shape.Idx → Elt Ideal .f32) (x : r.shape.Idx) :
    (oM.access r).write (Elt Ideal) f w Finset.univ (r.emb x) = w x :=
  (congrFun (read_oM _) _).symm.trans (View.read_slice_write_emb (v := oM.view) r f w (Finset.mem_univ x))
/-- any other what was there. -/
theorem store_out (f : (cc0_stg2_0 : Ref sig .tc).ty.Contents (Elt Ideal)) (r : Rect S4096x1024) (w : r.shape.Idx → Elt Ideal .f32)
    (i : S4096x1024.Idx) (h : i ∉ r.set) : (oM.access r).write (Elt Ideal) f w Finset.univ i = f i :=
  ((congrFun (read_oM _) _).symm.trans (View.read_slice_write_of_not_mem (v := oM.view) r f w Finset.univ (by rwa [Rect.map_emb_univ]))).trans
    (congrFun (read_oM f) i)

theorem mem_quantR (b : Fin 8) (i : S4096x1024.Idx) : i ∈ (quantR b).set ↔ 512 * b.val ≤ (i 0).val ∧ (i 0).val < 512 * b.val + 512 := by
  rw [quantR, Rect.mem_set_unit]
  refine ⟨fun h => h 0, fun h a => ?_⟩
  match a with
  | ⟨0, _⟩ => exact h
  | ⟨1, _⟩ => exact ⟨Nat.zero_le _, by have : (i 1).val < 1024 := (i 1).isLt; show (i 1).val < 0 + 1024; omega⟩

/-- One block more. -/
theorem quant_step (u : Vec Ideal S8x128 .f32) (g : (cc0_stg2_0 : Ref sig .tc).ty.Contents (Elt Ideal)) (b : Fin 8) (i : S4096x1024.Idx) :
    (oM.access (quantR b)).write (Elt Ideal) g (k0_pay47 u (oM.view.readAt (Elt Ideal) (quantR b).toLoadRect g)) Finset.univ i
      = if 512 * b.val ≤ (i 0).val ∧ (i 0).val < 512 * b.val + 512 then scaled (peak u) (g i) else g i := by
  by_cases hi : i ∈ (quantR b).set
  · rw [if_pos ((mem_quantR b i).mp hi)]
    rw [← Rect.map_emb_univ] at hi
    obtain ⟨x, -, rfl⟩ := Finset.mem_map.mp hi
    exact (store_in g (quantR b) _ x).trans (pay47_at u _ x)
  · rw [if_neg fun h => hi ((mem_quantR b i).mpr h)]
    exact store_out g (quantR b) _ i hi

/-- The first `b` blocks quantised, the others as they were. -/
theorem quant_at (u : Vec Ideal S8x128 .f32) (f : (cc0_stg2_0 : Ref sig .tc).ty.Contents (Elt Ideal)) (i : S4096x1024.Idx) :
    ∀ b ≤ 8, quantW u f b i = if (i 0).val < 512 * b then scaled (peak u) (f i) else f i
  | 0, _ => (if_neg (Nat.not_lt_zero _)).symm
  | b + 1, hb => by
    have h : b < 8 := hb
    have ih := quant_at u f i b (by omega)
    unfold quantW
    rw [dif_pos h]
    refine (quant_step u _ ⟨b, h⟩ i).trans ?_
    show (if 512 * b ≤ (i 0).val ∧ (i 0).val < 512 * b + 512 then _ else _) = _
    rw [ih]
    by_cases h1 : (i 0).val < 512 * b
    · rw [if_neg (by omega), if_pos h1, if_pos (by omega)]
    · by_cases h2 : (i 0).val < 512 * b + 512
      · rw [if_pos ⟨by omega, h2⟩, if_neg h1, if_pos (by omega)]
      · rw [if_neg (by omega), if_neg h1, if_neg (by omega)]

variable (m : (ℓ : Loc nD τ sig) → Buf (Elt Ideal) ℓ) (ρ : Dev nD → PrngReg)

/-- An entry of a device's result. -/
theorem outV_at (c : Dev nD) (i : S4096x1024.Idx) : outV m c i = scaled (peak (tblV m)) (prodE m c i) := by
  refine (quant_at (tblV m) (prodV m c) i 8 le_rfl).trans (if_pos ?_)
  exact (i 0).isLt

/-- What the pipeline leaves in the result's array is the block the body left. -/
theorem finalA_out (c : Dev nD) : finalA m ρ c (2 : Fin 3) = outV m c := by
  refine (dats m ρ 0 c).arrAt_eq_of_cover (2 : Fin 3) (outV m c) (fun t _ => ?_) fun i => ?_
  · obtain rfl := fin_N0 t
    have ha : (dats m ρ 0 c).after (2 : Fin 3) t0_0 = outV m c := by dsimp only [dats]
    unfold Dat.flushed
    rw [ha]
    generalize outV m c = G
    funext x
    refine congrArg G (funext fun a => Fin.ext ?_)
    have e : ∀ a : Fin 2, win0_2.index t0_0 a * win0_2.size a = 0 := by decide +kernel
    show (x a).val = win0_2.index t0_0 a * win0_2.size a + 1 * (x a).val
    rw [e a]; omega
  · refine ⟨t0_0, flush0_2 t0_0, ?_⟩
    show i ∈ ((View.whole main_v1).slice (win0_2.rect t0_0)).set
    rw [View.set_slice_whole, Rect.mem_set_unit]
    intro a
    have e : ∀ a : Fin 2, win0_2.index t0_0 a * win0_2.size a = 0 ∧ win0_2.xsize (grid0.coords t0_0) a = S4096x1024.size a := by decide +kernel
    show win0_2.index t0_0 a * win0_2.size a ≤ (i a : Nat) ∧ (i a : Nat) < win0_2.index t0_0 a * win0_2.size a + win0_2.xsize (grid0.coords t0_0) a
    rw [(e a).1, (e a).2]
    exact ⟨Nat.zero_le _, by show (i a).val < 0 + S4096x1024.size a; rw [Nat.zero_add]; exact (i a).isLt⟩

end Cert.RingProof

end
-- ==== Proof.RefValue.lean ====
/-
What the reference leaves in its result: the product with negative entries put to zero, divided by a scale made of its
largest entry, cut off at the largest eight-bit float, and multiplied by the scale again.
-/
module

public import proofs.«01_k».proof.Proof.Gen.ReferenceIdeal.Frame
public import Idealize.ShloMosaic.Lib.Pipeline.Value
public import Idealize.ShloMosaic.Lib.StableHlo.Run
public import Idealize.ShloMosaic.Lib.Tactic

@[expose] public section

noncomputable section

namespace Cert.RefProof

open Cert.ReferenceIdeal Cert.ReferenceIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The product, negative entries put to zero. -/
def relu (c : Dev nD) : Vec F S4096x8192 .f32 :=
  maximumf (Host.dotGeneral dot_S4096x4096_S4096x8192_S4096x8192_1_0_0_1_n_n none (m ((c : Thread nD τ).loc main_arg0)) (m ((c : Thread nD τ).loc main_arg1)))
    (broadcastInDim S4096x8192 ![] bcast_S_S4096x8192 (constant S_ .f32 0x00000000#32))

/-- Its largest magnitude. -/
def amax (c : Dev nD) : Vec F S_ .f32 :=
  Host.reduce FloatOps.maximumf (Host.absf (relu m c)) (constant S_ .f32 0xFF800000#32) reducesTo_S4096x8192_S_d0_1 h_S_

/-- The scale. -/
def scale (c : Dev nD) : Vec F S_ .f32 := Host.divf (amax m c) (constant S_ .f32 0x43E00000#32)

/-- The scale as the quantising part is given it. -/
def scale1 (c : Dev nD) : Vec F S1x1 .f32 := broadcastInDim S1x1 ![] bcast_S_S1x1 (scale m c)

/-- The product quantised. -/
def quantised (c : Dev nD) : Vec F S4096x8192 .f32 := k0_pay1 (relu m c) (scale1 m c)

/-- The result. -/
def result (c : Dev nD) : Vec F S4096x8192 .f32 := mulf (quantised m c) (broadcastInDim S4096x8192 ![] bcast_S_S4096x8192 (scale m c))

theorem V_v2 (c : Dev nD) : V m c main_v2 = relu m c := by
  unfold V V0
  simp only [hostOps0, List.flatten_cons, List.flatten_nil, List.append_nil]
  after_results
  rfl
theorem V_v5 (c : Dev nD) : V m c main_v5 = scale m c := by
  unfold V V0
  simp only [hostOps0, List.flatten_cons, List.flatten_nil, List.append_nil]
  after_results
  rfl
theorem V_v6 (c : Dev nD) : V m c main_v6 = scale1 m c := by
  unfold V V0
  simp only [hostOps0, List.flatten_cons, List.flatten_nil, List.append_nil]
  after_results
  rfl

theorem zero2 : (![0, 0] : Fin 2 → ℕ) = fun _ => 0 := by decide

theorem blk_v2 (c : Dev nD) : iblk m c 0 t0_0 = relu m c := by
  rw [← V_v2]
  unfold iblk
  show View.read (Elt F) ((cfg0.win 0).blk t0_0).view (V m c main_v2) = V m c main_v2
  generalize V m c main_v2 = G
  funext x
  refine congrArg G (funext fun a => Fin.ext ?_)
  have e : ∀ a : Fin 2, win0_0.index t0_0 a * win0_0.size a = 0 := by decide +kernel
  show win0_0.index t0_0 a * win0_0.size a + 1 * (x a).val = (x a).val
  rw [e a]; omega
theorem blk_v6 (c : Dev nD) : iblk m c 1 t0_0 = scale1 m c := by
  rw [← V_v6]
  unfold iblk
  show View.read (Elt F) ((cfg0.win 1).blk t0_0).view (V m c main_v6) = V m c main_v6
  generalize V m c main_v6 = G
  funext x
  refine congrArg G (funext fun a => Fin.ext ?_)
  have e : ∀ a : Fin 2, win0_1.index t0_0 a * win0_1.size a = 0 := by decide +kernel
  show win0_1.index t0_0 a * win0_1.size a + 1 * (x a).val = (x a).val
  rw [e a]; omega

theorem body_leaves (c : Dev nD) : (dats m 0 c).after (2 : Fin 3) t0_0 = quantised m c := by
  refine (after0_2 m c t0_0).trans ?_
  rw [blk_v2, blk_v6]
  unfold out0_2
  refine (View.canon_unit_zero (Val := Elt F) zero2 inb_S4096x8192_S4096x8192_0_0 _).trans ?_
  exact congrArg₂ k0_pay1 (View.ld_unit_zero (Val := Elt F) zero2 inb_S4096x8192_S4096x8192_0_0 (relu m c))
    (View.ld_unit_zero (Val := Elt F) zero2 inb_S1x1_S1x1_0_0 (scale1 m c))

theorem flush2 : ∀ t : Fin cfg0.N, (cfg0.win 2).flush t = true := (by decide +kernel : ∀ t : Fin grid0.N, win0_2.flush t = true)

/-- What the region leaves in its result's array. -/
theorem arr_out (c : Dev nD) : (dats m 0 c).arrAt (2 : Fin 3) cfg0.N = quantised m c := by
  refine (dats m 0 c).arrAt_eq_of_cover (2 : Fin 3) (quantised m c) (fun t _ => ?_) fun i => ?_
  · obtain rfl := fin_N0 t
    unfold Dat.flushed
    rw [body_leaves]
    generalize quantised m c = G
    funext x
    refine congrArg G (funext fun a => Fin.ext ?_)
    have e : ∀ a : Fin 2, win0_2.index t0_0 a * win0_2.size a = 0 := by decide +kernel
    show (x a).val = win0_2.index t0_0 a * win0_2.size a + 1 * (x a).val
    rw [e a]; omega
  · refine ⟨t0_0, flush2 t0_0, ?_⟩
    show i ∈ ((View.whole main_v7).slice (win0_2.rect t0_0)).set
    rw [View.set_slice_whole, Rect.mem_set_unit]
    intro a
    have e : ∀ a : Fin 2, win0_2.index t0_0 a * win0_2.size a = 0 ∧ win0_2.xsize (grid0.coords t0_0) a = S4096x8192.size a := by decide +kernel
    show win0_2.index t0_0 a * win0_2.size a ≤ (i a : Nat) ∧ (i a : Nat) < win0_2.index t0_0 a * win0_2.size a + win0_2.xsize (grid0.coords t0_0) a
    rw [(e a).1, (e a).2]
    exact ⟨Nat.zero_le _, by show (i a).val < 0 + S4096x8192.size a; rw [Nat.zero_add]; exact (i a).isLt⟩

theorem arr_inj : Function.Injective (Pipeline.arrRef spec0) := by decide

/-- The lines after the region make the result. -/
theorem tail_v9 (c : Dev nD) : Pipeline.afterTail₀ cfgs (dats m) 0 (V0 m) [hostOps1] c main_v9 = result m c := by
  unfold Pipeline.afterTail₀
  simp only [hostOps1, List.flatten_cons, List.flatten_nil, List.append_nil]
  after_results
  have h7 := Pipeline.withArrays_arr spec0 arr_inj c (V0 m c) (fun w => (dats m 0 c).arrAt w cfg0.N) (2 : Fin 3)
  have h5 := Pipeline.withArrays_of_ne spec0 c (V0 m c) (fun w => (dats m 0 c).arrAt w cfg0.N) main_v5 (by decide)
  exact congrArg₂ mulf (h7.trans (arr_out m c)) (congrArg (broadcastInDim S4096x8192 ![] bcast_S_S4096x8192) (h5.trans (V_v5 m c)))

/-- The reference ends with its result at `result` and its arguments as they were. -/
theorem run : θ_run defs (onTc (τ := τ) (main (F := F))) ⟨m, fun _ => 0, ρ⟩ (fun r => ∀ c : Dev nD,
    r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.RefProof

end
-- ==== Proof.Equation.lean ====
/-
The value of the kernel against the reference, over the extended reals. Both quantise the same entries of the product; both
maxima are the least bound of the same entries, so the scales are one; and multiplying by the reciprocal of the scale is
dividing by it, except where the scale is zero, when both results are zero.
-/
module

public import proofs.«01_k».proof.Proof.Quant
public import proofs.«01_k».proof.Proof.RefValue
public import proofs.«01_k».proof.Defs
public import Idealize.ShloMosaic.Lib.IdealHost
public import Idealize.ShloMosaic.Lib.StackMember
public import Idealize.ShloMosaic.Lib.Layout

@[expose] public section

noncomputable section

namespace Cert.RefProof

open Cert.ReferenceIdeal Cert.ReferenceIdeal.Gen
open Idealize.ShloMosaic Idealize.ShloMosaic.TcCoe Idealize.ShloMosaic.ValueIdx
open Idealize.SL Idealize.SL.Sem
open Cert.RingProof (SX SW entry entry_nonneg top8 scaled peak)

variable (m : (ℓ : Loc nD τ sig) → Buf (Elt Ideal) ℓ)

/-- The reference's arguments as matrices of extended reals. -/
def argX : SX.Idx → EReal := m (((0 : Dev nD).tc : Thread nD τ).loc main_arg0)
def argW : SW.Idx → EReal := m (((0 : Dev nD).tc : Thread nD τ).loc main_arg1)

theorem dot_plain : dot_S4096x4096_S4096x8192_S4096x8192_1_0_0_1_n_n = DotDims.plain 4096 4096 8192 := rfl

/-- An entry of the reference's product. -/
theorem relu_at (r : Fin 4096) (q : Fin 8192) : (relu m 0 (ix2 r q) : EReal) = entry (argX m) (argW m) r q := by
  have e := Idealize.ShloMosaic.StackMember.dotGeneral_plain_apply (m := 4096) (n := 8192) (k := 4096) (φ₁ := .f32) (φ₂ := .f32) none
    (m (((0 : Dev nD).tc : Thread nD τ).loc main_arg0)) (m (((0 : Dev nD).tc : Thread nD τ).loc main_arg1)) r q
  have z : Ideal.ofBits .f32 0x00000000#32 = 0 := by simp [Ideal.ofBits, Ideal.ieee]
  unfold relu
  rw [dot_plain]
  exact congrArg₂ (max : EReal → EReal → EReal) e z

/-- The largest magnitude as an extended real. -/
def amaxE : EReal := amax m 0 ix0

/-- The scale as an extended real. -/
def scaleE : EReal := Ideal.div (amaxE m) top8

theorem scale_at (j : S_.Idx) : (scale m 0 j : EReal) = scaleE m := by
  rw [show j = ix0 from funext fun a => a.elim0]
  rfl

/-- The largest magnitude is at most `b` exactly if every entry is. -/
theorem amax_le (b : EReal) : amaxE m ≤ b ↔ ∀ r q, entry (argX m) (argW m) r q ≤ b := by
  have e := Host.reduce_eq_fold (FloatOps.maximumf (F := Ideal) (φ := .f32)) (Host.absf (relu m 0)) (constant (F := Ideal) S_ .f32 0xFF800000#32)
    reducesTo_S4096x8192_S_d0_1 h_S_ ix0
  refine Iff.trans (iff_of_eq (congrArg (fun x : EReal => x ≤ b) e)) ?_
  refine Iff.trans (Finset.fold_max_le (β := EReal) (b := _) (f := Host.absf (relu m 0)) (s := _) b) ?_
  have hb : (constant (F := Ideal) S_ .f32 0xFF800000#32 (Shape.Idx.first h_S_) : EReal) = ⊥ := by
    show Ideal.ofBits .f32 0xFF800000#32 = ⊥; simp [Ideal.ofBits, Ideal.ieee]
  have ha : ∀ r q, (Host.absf (relu m 0) (ix2 r q) : EReal) = entry (argX m) (argW m) r q := fun r q => by
    have h0 := entry_nonneg (argX m) (argW m) r q
    have h1 : (Host.absf (relu m 0) (ix2 r q) : EReal) = max (relu m 0 (ix2 r q) : EReal) (-(relu m 0 (ix2 r q) : EReal)) := rfl
    refine h1.trans ?_
    rw [relu_at]
    exact max_eq_left (le_trans (EReal.neg_le_zero.mpr h0) h0)
  rw [hb]
  refine ⟨fun H r q => ?_, fun H => ⟨bot_le, fun i _ => ?_⟩⟩
  · exact le_of_eq_of_le (α := EReal) (ha r q).symm (H.2 (ix2 r q) (Finset.mem_filter.mpr ⟨Finset.mem_univ _, funext fun a => a.elim0⟩))
  · obtain ⟨r, q, rfl⟩ : ∃ (r : Fin 4096) (q : Fin 8192), i = ix2 r q := ⟨i 0, i 1, eq_ix2 i⟩
    exact le_of_eq_of_le (α := EReal) (ha r q) (H r q)

/-- An entry of the reference's result. -/
theorem result_at (r : Fin 4096) (q : Fin 8192) :
    (result m 0 (ix2 r q) : EReal) = min (Ideal.div (entry (argX m) (argW m) r q) (scaleE m)) top8 * scaleE m := by
  have hs1 : ∀ j, (broadcastTo S4096x8192 (shapeCast S1x1 (scale1 m 0) shapeCasts_S1x1_S1x1) broadcasts_S1x1_S4096x8192 j : EReal) = scaleE m := fun j => by
    unfold broadcastTo shapeCast scale1 broadcastInDim
    exact scale_at m _
  have hs : (broadcastInDim S4096x8192 ![] bcast_S_S4096x8192 (scale m 0) (ix2 r q) : EReal) = scaleE m := scale_at m _
  have hq : (quantised m 0 (ix2 r q) : EReal) = min (Ideal.div (relu m 0 (ix2 r q)) (scaleE m)) top8 := by
    unfold quantised k0_pay1
    rw [shapeCast_self]
    exact congrArg (fun t : EReal => min (Ideal.div (relu m 0 (ix2 r q)) t) top8) (hs1 (ix2 r q))
  rw [relu_at] at hq
  exact congrArg₂ (fun a b : EReal => a * b) hq hs

/-- Quantising with the reciprocal of the scale is quantising with the scale. -/
theorem scaled_eq (p y : EReal) : scaled p y = min (Ideal.div y (Ideal.div p top8)) top8 * Ideal.div p top8 := by
  unfold scaled
  by_cases h : Ideal.div p top8 = 0
  · rw [h, mul_zero, mul_zero]
  · rw [Ideal.mul_one_div h]

end Cert.RefProof

namespace Cert.RingProof

open Cert.KernelIdeal Cert.KernelIdeal.Gen
open Idealize.ShloMosaic Idealize.ShloMosaic.TcCoe Idealize.ShloMosaic.ValueIdx
open Idealize.SL Idealize.SL.Sem
open Cert.RefProof (argX argW amaxE scaleE result)

variable {m : (ℓ : Loc nD τ sig) → Buf (Elt Ideal) ℓ} {m' : (ℓ : Loc Cert.ReferenceIdeal.nD Cert.ReferenceIdeal.τ Cert.ReferenceIdeal.sig) → Buf (Elt Ideal) ℓ}

/-- The devices' maximum is the reference's. -/
theorem peak_eq (h : Held m (argX m') (argW m')) : peak (tblV m) = amaxE m' := by
  refine eq_of_forall_ge_iff fun b => ?_
  rw [peak_tbl_le, Cert.RefProof.amax_le]
  refine ⟨fun H r q => ?_, fun H => ⟨(entry_nonneg _ _ _ _).trans (H ⟨0, by decide⟩ ⟨0, by decide⟩), fun c i => ?_⟩⟩
  · have hc : q.val / 1024 < 8 := by omega
    have hq : q = colOf (⟨q.val / 1024, hc⟩ : Fin 8) ⟨q.val % 1024, Nat.mod_lt _ (by decide)⟩ := Fin.ext (by
      show q.val = q.val / 1024 * 1024 + q.val % 1024; omega)
    rw [hq, ← prod_at h]
    exact H.2 _ _
  · obtain ⟨r, q, rfl⟩ : ∃ (r : Fin 4096) (q : Fin 1024), i = ix2 r q := ⟨i 0, i 1, eq_ix2 i⟩
    rw [prod_at h]
    exact H _ _

theorem tilesO : Layout.Tiles ⟨2, ![4096, 1024]⟩ ⟨2, ![4096, 8192]⟩ 1 8 := by decide

/-- Device `c`'s result is its columns of the reference's. -/
theorem out_eq (h : Held m (argX m') (argW m')) (c : Dev nD) :
    outV m c = Layout.block ⟨2, ![4096, 1024]⟩ ⟨2, ![4096, 8192]⟩ 1 8 c (result m' 0) tilesO := by
  funext i
  obtain ⟨r, q, rfl⟩ : ∃ (r : Fin 4096) (q : Fin 1024), i = ix2 r q := ⟨i 0, i 1, eq_ix2 i⟩
  refine (outV_at m c (ix2 r q)).trans ?_
  rw [prod_at h, peak_eq h, Cert.RefProof.scaled_eq]
  refine (Cert.RefProof.result_at m' r (colOf c q)).symm.trans ?_
  rw [Layout.block_apply]
  refine congrArg (result m' 0) (funext fun a => Fin.ext ?_)
  match a with
  | ⟨0, _⟩ => rfl
  | ⟨1, _⟩ => rfl

/-- The kernel's results are the blocks of the reference's. -/
theorem algebraic : Cert.algebraic_KernelIdeal_ReferenceIdeal := fun m g m' g' _ h => by
  have hh : Held m (argX m') (argW m') := h
  refine ⟨result m' 0, ?_, ?_⟩
  · exact (θ_run Cert.KernelIdeal.defs _ _).mono
      (fun _ hr c => ⟨((hr.1 c (2 : Fin 3)).trans (finalA_out m g c)).trans (out_eq hh c),
        (hr.1 c (0 : Fin 3)).trans (finalA_x m g c), (hr.1 c (1 : Fin 3)).trans (finalA_w m g c)⟩)
      (run_main (F := Ideal) m g)
  · exact (θ_run Cert.ReferenceIdeal.defs _ _).mono (fun _ hr => hr 0) (Cert.RefProof.run m' g')

end Cert.RingProof

end
-- ==== Proof.lean ====
/-
  The claims of this certificate together: the frames of the kernel as printed and of its idealization (Proof/Frames.lean), the
  reference's frame, that the idealization rewrites nothing, and that the idealized kernel's results are the blocks of the
  reference's (Proof/Equation.lean).
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts,
    Cert.RingProof.frame_kernel, Cert.RingProof.frame_kernelIdeal, fun m ρ _ => Cert.ReferenceIdeal.Gen.frame m ρ, trivial,
    Cert.RingProof.algebraic⟩

end Cert.Proof

end
